-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S8x192x28x28 : Shape := ⟨4, ![8, 192, 28, 28]⟩
abbrev S48x192 : Shape := ⟨2, ![48, 192]⟩
abbrev S48 : Shape := ⟨1, ![48]⟩
abbrev S8x48 : Shape := ⟨2, ![8, 48]⟩
abbrev S8 : Shape := ⟨1, ![8]⟩
abbrev S8x192x192 : Shape := ⟨3, ![8, 192, 192]⟩
abbrev S8x192 : Shape := ⟨2, ![8, 192]⟩
abbrev S_ : Shape := ⟨0, ![]⟩

class Facts : Prop where
  bcast_S_S8x192x28x28 : S_.BroadcastsInDim S8x192x28x28 (![] : Fin 0 → Fin S8x192x28x28.rank)
  bcast_S_S8x192x192 : S_.BroadcastsInDim S8x192x192 (![] : Fin 0 → Fin S8x192x192.rank)

variable [Facts]

def fn {F : FTy → Type} [FloatOps F] (main_arg0 : FVec F S8x192x28x28 .f32) (main_arg1 : FVec F S48x192 .f32) (main_arg2 : FVec F S48 .f32) (main_arg3 : FVec F S8x48 .f32) (main_arg4 : FVec F S8 .f32) (main_arg5 : FVec F S8x192x192 .f32) (main_arg6 : FVec F S8x192 .f32) : IVec S8x192x28x28 1 × IVec S8x192x192 1 :=
  let main_v0 : FVec F S8x192x28x28 .f32 := Host.absf main_arg0
  let main_cst : FVec F S_ .f32 := constant S_ .f32 0x7F800000#32
  let main_v1 : FVec F S8x192x28x28 .f32 := broadcastInDim S8x192x28x28 ![] bcast_S_S8x192x28x28 main_cst
  let main_v2 : IVec S8x192x28x28 1 := cmpf .olt main_v0 main_v1
  let main_v3 : FVec F S8x192x192 .f32 := Host.absf main_arg5
  let main_cst_0 : FVec F S_ .f32 := constant S_ .f32 0x7F800000#32
  let main_v4 : FVec F S8x192x192 .f32 := broadcastInDim S8x192x192 ![] bcast_S_S8x192x192 main_cst_0
  let main_v5 : IVec S8x192x192 1 := cmpf .olt main_v3 main_v4
  (main_v2, main_v5)
-- ==== KernelIdeal.lean ====
abbrev S8x192x28x28 : Shape := ⟨4, ![8, 192, 28, 28]⟩
abbrev S48x192 : Shape := ⟨2, ![48, 192]⟩
abbrev S48 : Shape := ⟨1, ![48]⟩
abbrev S8x48 : Shape := ⟨2, ![8, 48]⟩
abbrev S8 : Shape := ⟨1, ![8]⟩
abbrev S8x192x192 : Shape := ⟨3, ![8, 192, 192]⟩
abbrev S8x192 : Shape := ⟨2, ![8, 192]⟩
abbrev S8x192x784 : Shape := ⟨3, ![8, 192, 784]⟩
abbrev S48x1 : Shape := ⟨2, ![48, 1]⟩
abbrev S8x1 : Shape := ⟨2, ![8, 1]⟩
abbrev S8x192x1 : Shape := ⟨3, ![8, 192, 1]⟩
abbrev S2x192x784 : Shape := ⟨3, ![2, 192, 784]⟩
abbrev S1x192x784 : Shape := ⟨3, ![1, 192, 784]⟩
abbrev S192x784 : Shape := ⟨2, ![192, 784]⟩
abbrev S192 : Shape := ⟨1, ![192]⟩
abbrev S192x1 : Shape := ⟨2, ![192, 1]⟩
abbrev S1x8x1 : Shape := ⟨3, ![1, 8, 1]⟩
abbrev S1 : Shape := ⟨1, ![1]⟩
abbrev S1x1x1 : Shape := ⟨3, ![1, 1, 1]⟩
abbrev S1x192x192 : Shape := ⟨3, ![1, 192, 192]⟩
abbrev S192x192 : Shape := ⟨2, ![192, 192]⟩
abbrev S1x192x1 : Shape := ⟨3, ![1, 192, 1]⟩

abbrev nBuf : Space → Nat
  | .hbm => 13
  | .vmem => 10
  | .smem => 0
  | _ => 0

abbrev bufTy : (tb : Table) → Fin (tcTables nBuf tb) → BufTy
  | .hbm, ⟨0, _⟩ => ⟨S8x192x28x28, .f32⟩
  | .hbm, ⟨1, _⟩ => ⟨S48x192, .f32⟩
  | .hbm, ⟨2, _⟩ => ⟨S48, .f32⟩
  | .hbm, ⟨3, _⟩ => ⟨S8x48, .f32⟩
  | .hbm, ⟨4, _⟩ => ⟨S8, .f32⟩
  | .hbm, ⟨5, _⟩ => ⟨S8x192x192, .f32⟩
  | .hbm, ⟨6, _⟩ => ⟨S8x192, .f32⟩
  | .hbm, ⟨7, _⟩ => ⟨S8x192x784, .f32⟩
  | .hbm, ⟨8, _⟩ => ⟨S48x1, .f32⟩
  | .hbm, ⟨9, _⟩ => ⟨S8x1, .f32⟩
  | .hbm, ⟨10, _⟩ => ⟨S8x192x1, .f32⟩
  | .hbm, ⟨11, _⟩ => ⟨S8x192x784, .f32⟩
  | .hbm, ⟨12, _⟩ => ⟨S8x192x28x28, .f32⟩
  | .local _ .vmem, ⟨0, _⟩ => ⟨S2x192x784, .f32⟩
  | .local _ .vmem, ⟨1, _⟩ => ⟨S2x192x784, .f32⟩
  | .local _ .vmem, ⟨2, _⟩ => ⟨S48x192, .f32⟩
  | .local _ .vmem, ⟨3, _⟩ => ⟨S48x1, .f32⟩
  | .local _ .vmem, ⟨4, _⟩ => ⟨S8x48, .f32⟩
  | .local _ .vmem, ⟨5, _⟩ => ⟨S8x1, .f32⟩
  | .local _ .vmem, ⟨6, _⟩ => ⟨S8x192x192, .f32⟩
  | .local _ .vmem, ⟨7, _⟩ => ⟨S8x192x1, .f32⟩
  | .local _ .vmem, ⟨8, _⟩ => ⟨S2x192x784, .f32⟩
  | .local _ .vmem, ⟨9, _⟩ => ⟨S2x192x784, .f32⟩
  | _, _ => ⟨S8x192x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def k0_off1 (v43 : BitVec 32) : Fin 3 → Nat :=
  let v65 : Index := Scalar.indexCast v43
  let c0_24 : Index := 0#32
  let c0_25 : Index := 0#32
  ![v65.toNat, 0, 0]

def k0_off2 (v59 : BitVec 32) : Fin 3 → Nat :=
  let v68 : Index := Scalar.indexCast v59
  let c0_26 : Index := 0#32
  let c0_27 : Index := 0#32
  ![v68.toNat, 0, 0]

def k0_off3 (v43 : BitVec 32) : Fin 3 → Nat :=
  let v76 : Index := Scalar.indexCast v43
  let c0_28 : Index := 0#32
  let c0_29 : Index := 0#32
  ![v76.toNat, 0, 0]

def k0_chk1 (v43 : BitVec 32) : Prop :=
  (∀ a, (k0_off1 v43) a + S1x192x192.size a ≤ S8x192x192.size a) ∧
  (∀ a, (k0_off3 v43) a + S1x192x1.size a ≤ S8x192x1.size a)
theorem k0_off1_inb : ∀ (v43 : BitVec 32) (k0_hw1 : k0_chk1 v43), ∀ a, (k0_off1 v43) a + S1x192x192.size a ≤ S8x192x192.size a := fun v43 k0_hw1 => k0_hw1.1
theorem k0_off3_inb : ∀ (v43 : BitVec 32) (k0_hw1 : k0_chk1 v43), ∀ a, (k0_off3 v43) a + S1x192x1.size a ≤ S8x192x1.size a := fun v43 k0_hw1 => k0_hw1.2

def k0_off4 (v59 : BitVec 32) : Fin 3 → Nat :=
  let v82 : Index := Scalar.indexCast v59
  let c0_30 : Index := 0#32
  let c0_31 : Index := 0#32
  ![v82.toNat, 0, 0]

def k0_chk2 (v59 : BitVec 32) : Prop :=
  (∀ a, (k0_off2 v59) a + S1x192x192.size a ≤ S8x192x192.size a) ∧
  (∀ a, (k0_off4 v59) a + S1x192x1.size a ≤ S8x192x1.size a)
theorem k0_off2_inb : ∀ (v59 : BitVec 32) (k0_hw2 : k0_chk2 v59), ∀ a, (k0_off2 v59) a + S1x192x192.size a ≤ S8x192x192.size a := fun v59 k0_hw2 => k0_hw2.1
theorem k0_off4_inb : ∀ (v59 : BitVec 32) (k0_hw2 : k0_chk2 v59), ∀ a, (k0_off4 v59) a + S1x192x1.size a ≤ S8x192x1.size a := fun v59 k0_hw2 => k0_hw2.2

def k0_off5 (v139 : BitVec 32) : Fin 3 → Nat :=
  let v161 : Index := Scalar.indexCast v139
  let c0_62 : Index := 0#32
  let c0_63 : Index := 0#32
  ![v161.toNat, 0, 0]

def k0_off6 (v155 : BitVec 32) : Fin 3 → Nat :=
  let v164 : Index := Scalar.indexCast v155
  let c0_64 : Index := 0#32
  let c0_65 : Index := 0#32
  ![v164.toNat, 0, 0]

def k0_off7 (v139 : BitVec 32) : Fin 3 → Nat :=
  let v172 : Index := Scalar.indexCast v139
  let c0_66 : Index := 0#32
  let c0_67 : Index := 0#32
  ![v172.toNat, 0, 0]

def k0_chk3 (v139 : BitVec 32) : Prop :=
  (∀ a, (k0_off5 v139) a + S1x192x192.size a ≤ S8x192x192.size a) ∧
  (∀ a, (k0_off7 v139) a + S1x192x1.size a ≤ S8x192x1.size a)
theorem k0_off5_inb : ∀ (v139 : BitVec 32) (k0_hw3 : k0_chk3 v139), ∀ a, (k0_off5 v139) a + S1x192x192.size a ≤ S8x192x192.size a := fun v139 k0_hw3 => k0_hw3.1
theorem k0_off7_inb : ∀ (v139 : BitVec 32) (k0_hw3 : k0_chk3 v139), ∀ a, (k0_off7 v139) a + S1x192x1.size a ≤ S8x192x1.size a := fun v139 k0_hw3 => k0_hw3.2

def k0_off8 (v155 : BitVec 32) : Fin 3 → Nat :=
  let v178 : Index := Scalar.indexCast v155
  let c0_68 : Index := 0#32
  let c0_69 : Index := 0#32
  ![v178.toNat, 0, 0]

def k0_chk4 (v155 : BitVec 32) : Prop :=
  (∀ a, (k0_off6 v155) a + S1x192x192.size a ≤ S8x192x192.size a) ∧
  (∀ a, (k0_off8 v155) a + S1x192x1.size a ≤ S8x192x1.size a)
theorem k0_off6_inb : ∀ (v155 : BitVec 32) (k0_hw4 : k0_chk4 v155), ∀ a, (k0_off6 v155) a + S1x192x192.size a ≤ S8x192x192.size a := fun v155 k0_hw4 => k0_hw4.1
theorem k0_off8_inb : ∀ (v155 : BitVec 32) (k0_hw4 : k0_chk4 v155), ∀ a, (k0_off8 v155) a + S1x192x1.size a ≤ S8x192x1.size a := fun v155 k0_hw4 => k0_hw4.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x192x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x192x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x192x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x192x784 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x192x28x28 : Shape := ⟨4, ![8, 192, 28, 28]⟩
abbrev S48x192 : Shape := ⟨2, ![48, 192]⟩
abbrev S48 : Shape := ⟨1, ![48]⟩
abbrev S8x48 : Shape := ⟨2, ![8, 48]⟩
abbrev S8 : Shape := ⟨1, ![8]⟩
abbrev S8x192x192 : Shape := ⟨3, ![8, 192, 192]⟩
abbrev S8x192 : Shape := ⟨2, ![8, 192]⟩
abbrev S_ : Shape := ⟨0, ![]⟩
abbrev S192x48 : Shape := ⟨2, ![192, 48]⟩
abbrev S1x48 : Shape := ⟨2, ![1, 48]⟩
abbrev S48x8 : Shape := ⟨2, ![48, 8]⟩
abbrev S8x8 : Shape := ⟨2, ![8, 8]⟩
abbrev S1x8 : Shape := ⟨2, ![1, 8]⟩
abbrev S8x1 : Shape := ⟨2, ![8, 1]⟩
abbrev S8x2 : Shape := ⟨2, ![8, 2]⟩
abbrev S8x2x1 : Shape := ⟨3, ![8, 2, 1]⟩
abbrev S8x2x2 : Shape := ⟨3, ![8, 2, 2]⟩
abbrev S8x192x8x28x28 : Shape := ⟨5, ![8, 192, 8, 28, 28]⟩
abbrev S8x8x192x28x28 : Shape := ⟨5, ![8, 8, 192, 28, 28]⟩
abbrev S8x192x1x1 : Shape := ⟨4, ![8, 192, 1, 1]⟩
abbrev S8x1x192x1x1 : Shape := ⟨5, ![8, 1, 192, 1, 1]⟩

abbrev nBuf : Space → Nat
  | .hbm => 86
  | .vmem => 0
  | .smem => 0
  | _ => 0

abbrev bufTy : (tb : Table) → Fin (tcTables nBuf tb) → BufTy
  | .hbm, ⟨0, _⟩ => ⟨S8x192x28x28, .f32⟩
  | .hbm, ⟨1, _⟩ => ⟨S48x192, .f32⟩
  | .hbm, ⟨2, _⟩ => ⟨S48, .f32⟩
  | .hbm, ⟨3, _⟩ => ⟨S8x48, .f32⟩
  | .hbm, ⟨4, _⟩ => ⟨S8, .f32⟩
  | .hbm, ⟨5, _⟩ => ⟨S8x192x192, .f32⟩
  | .hbm, ⟨6, _⟩ => ⟨S8x192, .f32⟩
  | .hbm, ⟨7, _⟩ => ⟨S_, .f32⟩
  | .hbm, ⟨8, _⟩ => ⟨S8x192, .f32⟩
  | .hbm, ⟨9, _⟩ => ⟨S_, .f32⟩
  | .hbm, ⟨10, _⟩ => ⟨S8x192, .f32⟩
  | .hbm, ⟨11, _⟩ => ⟨S8x192, .f32⟩
  | .hbm, ⟨12, _⟩ => ⟨S192x48, .f32⟩
  | .hbm, ⟨13, _⟩ => ⟨S8x48, .f32⟩
  | .hbm, ⟨14, _⟩ => ⟨S1x48, .f32⟩
  | .hbm, ⟨15, _⟩ => ⟨S8x48, .f32⟩
  | .hbm, ⟨16, _⟩ => ⟨S8x48, .f32⟩
  | .hbm, ⟨17, _⟩ => ⟨S_, .f32⟩
  | .hbm, ⟨18, _⟩ => ⟨S8x48, .f32⟩
  | .hbm, ⟨19, _⟩ => ⟨S8x48, .f32⟩
  | .hbm, ⟨20, _⟩ => ⟨S48x8, .f32⟩
  | .hbm, ⟨21, _⟩ => ⟨S8x8, .f32⟩
  | .hbm, ⟨22, _⟩ => ⟨S1x8, .f32⟩
  | .hbm, ⟨23, _⟩ => ⟨S8x8, .f32⟩
  | .hbm, ⟨24, _⟩ => ⟨S8x8, .f32⟩
  | .hbm, ⟨25, _⟩ => ⟨S_, .f32⟩
  | .hbm, ⟨26, _⟩ => ⟨S8x8, .f32⟩
  | .hbm, ⟨27, _⟩ => ⟨S8x8, .f32⟩
  | .hbm, ⟨28, _⟩ => ⟨S_, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8x1, .f32⟩
  | .hbm, ⟨34, _⟩ => ⟨S8x8, .f32⟩
  | .hbm, ⟨35, _⟩ => ⟨S8x8, .f32⟩
  | .hbm, ⟨36, _⟩ => ⟨S8x8, .f32⟩
  | .hbm, ⟨37, _⟩ => ⟨S_, .f32⟩
  | .hbm, ⟨38, _⟩ => ⟨S8, .f32⟩
  | .hbm, ⟨39, _⟩ => ⟨S8x1, .f32⟩
  | .hbm, ⟨40, _⟩ => ⟨S8x8, .f32⟩
  | .hbm, ⟨41, _⟩ => ⟨S8x8, .f32⟩
  | .hbm, ⟨42, _⟩ => ⟨S8x2, .f32⟩
  | .hbm, ⟨43, _⟩ => ⟨S8x2, .i32⟩
  | .hbm, ⟨44, _⟩ => ⟨S_, .f32⟩
  | .hbm, ⟨45, _⟩ => ⟨S8x8, .f32⟩
  | .hbm, ⟨46, _⟩ => ⟨S8, .i32⟩
  | .hbm, ⟨47, _⟩ => ⟨S8x1, .i32⟩
  | .hbm, ⟨48, _⟩ => ⟨S_, .i32⟩
  | .hbm, ⟨49, _⟩ => ⟨S8x1, .i32⟩
  | .hbm, ⟨50, _⟩ => ⟨S8x1, .i1⟩
  | .hbm, ⟨51, _⟩ => ⟨S_, .i32⟩
  | .hbm, ⟨52, _⟩ => ⟨S8x1, .i32⟩
  | .hbm, ⟨53, _⟩ => ⟨S8x1, .i32⟩
  | .hbm, ⟨54, _⟩ => ⟨S8x1, .i32⟩
  | .hbm, ⟨55, _⟩ => ⟨S_, .i32⟩
  | .hbm, ⟨56, _⟩ => ⟨S8x2, .i32⟩
  | .hbm, ⟨57, _⟩ => ⟨S8x2, .i1⟩
  | .hbm, ⟨58, _⟩ => ⟨S_, .i32⟩
  | .hbm, ⟨59, _⟩ => ⟨S8x2, .i32⟩
  | .hbm, ⟨60, _⟩ => ⟨S8x2, .i32⟩
  | .hbm, ⟨61, _⟩ => ⟨S8x2, .i32⟩
  | .hbm, ⟨62, _⟩ => ⟨S8x2, .i32⟩
  | .hbm, ⟨63, _⟩ => ⟨S8x2x1, .i32⟩
  | .hbm, ⟨64, _⟩ => ⟨S8x2x1, .i32⟩
  | .hbm, ⟨65, _⟩ => ⟨S8x2x2, .i32⟩
  | .hbm, ⟨66, _⟩ => ⟨S_, .f32⟩
  | .hbm, ⟨67, _⟩ => ⟨S8x2, .f32⟩
  | .hbm, ⟨68, _⟩ => ⟨S8x8, .f32⟩
  | .hbm, ⟨69, _⟩ => ⟨S8x8, .f32⟩
  | .hbm, ⟨70, _⟩ => ⟨S_, .f32⟩
  | .hbm, ⟨71, _⟩ => ⟨S8, .f32⟩
  | .hbm, ⟨72, _⟩ => ⟨S8x1, .f32⟩
  | .hbm, ⟨73, _⟩ => ⟨S_, .f32⟩
  | .hbm, ⟨74, _⟩ => ⟨S8x1, .f32⟩
  | .hbm, ⟨75, _⟩ => ⟨S8x1, .f32⟩
  | .hbm, ⟨76, _⟩ => ⟨S8x8, .f32⟩
  | .hbm, ⟨77, _⟩ => ⟨S8x8, .f32⟩
  | .hbm, ⟨78, _⟩ => ⟨S8x192x8x28x28, .f32⟩
  | .hbm, ⟨79, _⟩ => ⟨S8x8x192x28x28, .f32⟩
  | .hbm, ⟨80, _⟩ => ⟨S8x192x1x1, .f32⟩
  | .hbm, ⟨81, _⟩ => ⟨S8x1x192x1x1, .f32⟩
  | .hbm, ⟨82, _⟩ => ⟨S8x8x192x28x28, .f32⟩
  | .hbm, ⟨83, _⟩ => ⟨S8x8x192x28x28, .f32⟩
  | .hbm, ⟨84, _⟩ => ⟨S8x192x28x28, .f32⟩
  | .hbm, ⟨85, _⟩ => ⟨S8x192x28x28, .f32⟩
  | _, _ => ⟨S8x192x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_values : Ref sig .tc := ⟨.hbm, 42, rfl⟩
abbrev main_indices : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Proof.Pick.lean ====
/-
  THE TWO LARGEST OF EIGHT. On extended reals: the largest of eight values (`top`), the first place it stands at (`pick`),
  the values with that one replaced by minus one (`rest`). On the kernel's vectors: the three printed computations
  (`topV`, `rowV`, `restV`) and that each is the named one; so both expert numbers of a block are below eight, which is
  what the body assumes of them.
-/
module

public import proofs.«01_k».proof.Proof.Gen.KernelIdeal.Skeleton
public import Idealize.ShloMosaic.Lib.Pointwise

@[expose] public section

set_option maxRecDepth 16384

noncomputable section

namespace Cert.Moe

open Idealize.ShloMosaic

/-! ## The largest of eight values and the first place it stands at -/

/-- The largest of eight extended reals. -/
def top (p : Fin 8 → EReal) : EReal := Finset.univ.sup p

/-- No value is larger than the largest. -/
theorem le_top (p : Fin 8 → EReal) (k : Fin 8) : p k ≤ top p := Finset.le_sup (f := p) (Finset.mem_univ k)

/-- Some value is the largest. -/
theorem attained (p : Fin 8 → EReal) : (Finset.univ.filter fun k => p k = top p).Nonempty := by
  obtain ⟨k, _, hk⟩ := Finset.exists_mem_eq_sup Finset.univ Finset.univ_nonempty p
  exact ⟨k, Finset.mem_filter.mpr ⟨Finset.mem_univ _, hk.symm⟩⟩

/-- The first place the largest value stands at. -/
def pick (p : Fin 8 → EReal) : Fin 8 := (Finset.univ.filter fun k => p k = top p).min' (attained p)

/-- The largest value stands there. -/
theorem at_pick (p : Fin 8 → EReal) : p (pick p) = top p :=
  (Finset.mem_filter.mp (Finset.min'_mem _ (attained p))).2

/-- Every earlier value is smaller. -/
theorem lt_of_lt_pick (p : Fin 8 → EReal) (k : Fin 8) (h : k < pick p) : p k < p (pick p) := by
  rw [at_pick p]
  refine lt_of_le_of_ne (le_top p k) fun e => absurd h (not_lt.mpr ?_)
  exact Finset.min'_le (Finset.univ.filter fun j => p j = top p) k (Finset.mem_filter.mpr ⟨Finset.mem_univ _, e⟩)

/-- The first greatest place is the only one with these two properties. -/
theorem pick_unique (p : Fin 8 → EReal) (i : Fin 8) (hge : ∀ k, p k ≤ p i) (hlt : ∀ k < i, p k < p i) : pick p = i := by
  have htop : p i = top p := le_antisymm (le_top p i) (Finset.sup_le fun k _ => hge k)
  rcases lt_trichotomy (pick p) i with h | h | h
  · exact absurd (at_pick p) (ne_of_lt (htop ▸ hlt _ h))
  · exact h
  · exact absurd htop (ne_of_lt (at_pick p ▸ lt_of_lt_pick p i h))

/-- The values with the first greatest one replaced by minus one. -/
def rest (p : Fin 8 → EReal) (k : Fin 8) : EReal := if k = pick p then -1 else p k

/-! ## The kernel's words for it -/

/-- The word the kernel starts a maximum from is −∞. -/
theorem ofBits_neg_infinity : Ideal.ofBits .f32 0xFF800000#32 = ⊥ := by
  simp [Ideal.ofBits, Ideal.ieee]

/-- The word the kernel overwrites the first greatest value with is −1. -/
theorem ofBits_neg_one : Ideal.ofBits .f32 0xBF800000#32 = (-1 : EReal) := by
  simp [Ideal.ofBits, Ideal.ieee]
  rw [← EReal.coe_mul, ← EReal.coe_one]
  norm_num

/-- The signed minimum, from the largest word, over eight words that are the place where `b` holds and eight elsewhere,
    is the first place where `b` holds. -/
theorem fold_first (b : Fin 8 → Bool) (i : Fin 8) (hi : b i = true) (hlt : ∀ k < i, b k = false) :
    Finset.fold IntOp.minsi 2147483647#32 (fun k : Fin 8 => if b k then BitVec.ofNat 32 k.val else 8#32) Finset.univ
      = BitVec.ofNat 32 i.val := by
  revert b i
  decide +kernel

/-- A fold over a column's eight entries is one over their rows. -/
theorem fold_rows {α : Type} (op : α → α → α) [Std.Commutative op] [Std.Associative op] (a : α) (f : Fin 8 → α) :
    Finset.fold op a (fun x : Fin 8 × Fin 1 => f x.1) Finset.univ = Finset.fold op a f Finset.univ := by
  rw [show (Finset.univ : Finset (Fin 8 × Fin 1)) = Finset.univ.map ⟨fun k : Fin 8 => (k, (0 : Fin 1)), fun _ _ h => (Prod.mk.inj h).1⟩
    by decide, Finset.fold_map]
  rfl

end Cert.Moe

namespace Cert.KernelIdeal.Moe

open Cert.KernelIdeal Cert.KernelIdeal.Gen
open Cert.Moe (top pick rest at_pick lt_of_lt_pick fold_first fold_rows ofBits_neg_infinity ofBits_neg_one)
open Idealize.ShloMosaic

variable {F : FTy → Type} [FloatOps F]

/-- The largest of the eight gate values, as the kernel takes it. -/
def topV (p : FVec F S8x1 .f32) : F .f32 :=
  extractAt ![0, 0, 0] (shapeCast S1x1x1 (multiReduction .maximumf [1, 2] S1 (shapeCast S1x8x1 p shapeCasts_S8x1_S1x8x1)
      0xFF800000#32 reduces_S1x8x1_S1 (.inl rfl) rfl) shapeCasts_S1_S1x1x1) inpos_S1x1x1_p0_0_0

/-- The first row whose value is the largest, as the kernel takes it. -/
def rowV (p : FVec F S8x1 .f32) : BitVec 32 :=
  extractAt ![0, 0, 0] (shapeCast S1x1x1 (multiReductionI .minsi [1, 2] S1 (shapeCast S1x8x1
    (select (cmpf .oeq p (broadcast S8x1 (topV p))) (iota .tc S8x1 32 [0] iota_S8x1_d0_w32) (broadcast S8x1 8#32)) shapeCasts_S8x1_S1x8x1)
      2147483647#32 reduces_S1x8x1_S1 rfl) shapeCasts_S1_S1x1x1) inpos_S1x1x1_p0_0_0

/-- The values with that row's replaced by minus one, as the kernel takes them. -/
def restV (p : FVec F S8x1 .f32) : FVec F S8x1 .f32 :=
  select (cmpi .eq (iota .tc S8x1 32 [0] iota_S8x1_d0_w32) (broadcast S8x1 (rowV p))) (broadcast S8x1 (Scalar.ofBits .f32 0xBF800000#32)) p

/-- The eight values of a column. -/
def col (p : FVec Ideal S8x1 .f32) (k : Fin 8) : EReal := p (ix2 k 0)

/-- The kernel's maximum is the largest value. -/
theorem topV_eq (p : FVec Ideal S8x1 .f32) : topV p = top (col p) := by
  unfold topV
  pointwise
  rw [ofBits_neg_infinity]
  exact fold_rows max (⊥ : EReal) (col p)

/-- The kernel's row is the first place of the largest value. -/
theorem rowV_eq (p : FVec Ideal S8x1 .f32) : rowV p = BitVec.ofNat 32 (pick (col p)).val := by
  unfold rowV
  pointwise
  rw [fold_rows IntOp.minsi 2147483647#32 (fun k : Fin 8 => if p (ix2 k 0) = topV p then BitVec.ofNat 32 k.val else 8#32)]
  have h := fold_first (fun k => decide (col p k = top (col p))) (pick (col p)) (by simpa using at_pick (col p))
    (fun k hk => by simpa using ne_of_lt (at_pick (col p) ▸ lt_of_lt_pick (col p) k hk))
  rw [← h]
  simp only [decide_eq_true_eq, topV_eq]
  rfl

/-- The kernel's remaining values are the values with the first greatest one replaced by minus one. -/
theorem restV_eq (p : FVec Ideal S8x1 .f32) : col (restV p) = rest (col p) := by
  funext k
  show (restV p (ix2 k 0) : EReal) = rest (col p) k
  unfold restV
  pointwise
  rw [rowV_eq, ofBits_neg_one, (by decide +kernel : ∀ a b : Fin 8,
    IntOp.cmpi CmpIPredicate.eq (BitVec.ofNat 32 a.val) (BitVec.ofNat 32 b.val) = BitVec.ofBool (decide (a = b))) k (pick (col p))]
  unfold rest
  by_cases e : k = pick (col p)
  · rw [if_pos e, decide_eq_true e]; rfl
  · rw [if_neg e, decide_eq_false e]; rfl

/-- The kernel's row, as a number. -/
theorem row_toNat (p : FVec Ideal S8x1 .f32) : (rowV p).toNat = (pick (col p)).val := by
  have := (pick (col p)).isLt
  rw [rowV_eq, BitVec.toNat_ofNat, Nat.mod_eq_of_lt (by omega)]

/-- A row is one of eight. -/
theorem row_lt (p : FVec Ideal S8x1 .f32) : (rowV p).toNat < 8 := by
  rw [row_toNat p]; exact (pick (col p)).isLt

/-- The slab an expert number below eight names is inside a stack of eight. -/
theorem slab_inb {w : BitVec 32} (off : Fin 3 → Nat) (hr : off = ![w.toNat, 0, 0]) (hw : w.toNat < 8)
    (c d : Nat) : ∀ a, off a + (![1, c, d] : Fin 3 → Nat) a ≤ (![8, c, d] : Fin 3 → Nat) a := by
  subst hr
  intro a
  match a with
  | ⟨0, _⟩ => show w.toNat + 1 ≤ 8; omega
  | ⟨1, _⟩ => show 0 + c ≤ c; omega
  | ⟨2, _⟩ => show 0 + d ≤ d; omega

/-- Image 0's first expert number is the kernel's row of its gate. -/
theorem first0 (v0 : Vec F S1x192x784 .f32) (v6 : Vec F S48x192 .f32) (v8 : Vec F S48x1 .f32) (v13 : Vec F S8x48 .f32) (v15 : Vec F S8x1 .f32) :
    extractAt ![0, 0, 0] (k0_pay7 (iota .tc S8x1 32 [0] iota_S8x1_d0_w32) (k0_pay5 v0 v6 v8 v13 v15) k0_pay6) inpos_S1x1x1_p0_0_0
      = rowV (k0_pay3 v0 v6 v8 v13 v15) := by
  unfold k0_pay7 k0_pay5 k0_pay6 k0_pay4 rowV topV; rfl

/-- What is left of image 0's gate once its first expert is taken. -/
theorem rest0 (v0 : Vec F S1x192x784 .f32) (v6 : Vec F S48x192 .f32) (v8 : Vec F S48x1 .f32) (v13 : Vec F S8x48 .f32) (v15 : Vec F S8x1 .f32) :
    k0_pay8 (k0_pay3 v0 v6 v8 v13 v15) (iota .tc S8x1 32 [0] iota_S8x1_d0_w32) (k0_pay5 v0 v6 v8 v13 v15) k0_pay6
      = restV (k0_pay3 v0 v6 v8 v13 v15) := by
  unfold k0_pay8 restV; dsimp only; rw [first0]

/-- Image 0's second expert number is the kernel's row of that. -/
theorem second0 (v0 : Vec F S1x192x784 .f32) (v6 : Vec F S48x192 .f32) (v8 : Vec F S48x1 .f32) (v13 : Vec F S8x48 .f32) (v15 : Vec F S8x1 .f32) :
    extractAt ![0, 0, 0] (k0_pay10 (k0_pay3 v0 v6 v8 v13 v15) (iota .tc S8x1 32 [0] iota_S8x1_d0_w32) (k0_pay5 v0 v6 v8 v13 v15) k0_pay6) inpos_S1x1x1_p0_0_0
      = rowV (restV (k0_pay3 v0 v6 v8 v13 v15)) := by
  unfold k0_pay10 k0_pay9; rw [rest0]; unfold rowV topV; rfl

/-- Image 1's first expert number is the kernel's row of its gate. -/
theorem first1 (v119 : FVec F S8x1 .f32) :
    extractAt ![0, 0, 0] (k0_pay21 v119) inpos_S1x1x1_p0_0_0 = rowV (k0_pay19 v119) := by
  unfold k0_pay21 k0_pay20 rowV topV; rfl

/-- What is left of image 1's gate once its first expert is taken. -/
theorem rest1 (v119 : FVec F S8x1 .f32) : k0_pay22 v119 = restV (k0_pay19 v119) := by
  unfold k0_pay22 restV; dsimp only; rw [first1]

/-- Image 1's second expert number is the kernel's row of that. -/
theorem second1 (v119 : FVec F S8x1 .f32) :
    extractAt ![0, 0, 0] (k0_pay24 v119) inpos_S1x1x1_p0_0_0 = rowV (restV (k0_pay19 v119)) := by
  unfold k0_pay24 k0_pay23; rw [rest1]; unfold rowV topV; rfl

/-- The side condition the body assumes of an expert number — the slab it names is inside the weights and the bias — is
    that the number is below eight. -/
theorem chk1_of {w : BitVec 32} (hw : w.toNat < 8) : k0_chk1 w := ⟨slab_inb _ rfl hw 192 192, slab_inb _ rfl hw 192 1⟩
/-- The same for image 0's second expert. -/
theorem chk2_of {w : BitVec 32} (hw : w.toNat < 8) : k0_chk2 w := ⟨slab_inb _ rfl hw 192 192, slab_inb _ rfl hw 192 1⟩
/-- The same for image 1's first expert. -/
theorem chk3_of {w : BitVec 32} (hw : w.toNat < 8) : k0_chk3 w := ⟨slab_inb _ rfl hw 192 192, slab_inb _ rfl hw 192 1⟩
/-- The same for image 1's second expert. -/
theorem chk4_of {w : BitVec 32} (hw : w.toNat < 8) : k0_chk4 w := ⟨slab_inb _ rfl hw 192 192, slab_inb _ rfl hw 192 1⟩

/-- Image 0's first expert. -/
theorem chk1 (v0 : Vec Ideal S1x192x784 .f32) (v6 : Vec Ideal S48x192 .f32) (v8 : Vec Ideal S48x1 .f32) (v13 : Vec Ideal S8x48 .f32) (v15 : Vec Ideal S8x1 .f32) :
    k0_chk1 (extractAt ![0, 0, 0] (k0_pay7 (iota .tc S8x1 32 [0] iota_S8x1_d0_w32) (k0_pay5 v0 v6 v8 v13 v15) k0_pay6) inpos_S1x1x1_p0_0_0) :=
  chk1_of (by rw [first0]; exact row_lt _)

/-- Image 0's second expert. -/
theorem chk2 (v0 : Vec Ideal S1x192x784 .f32) (v6 : Vec Ideal S48x192 .f32) (v8 : Vec Ideal S48x1 .f32) (v13 : Vec Ideal S8x48 .f32) (v15 : Vec Ideal S8x1 .f32) :
    k0_chk2 (extractAt ![0, 0, 0] (k0_pay10 (k0_pay3 v0 v6 v8 v13 v15) (iota .tc S8x1 32 [0] iota_S8x1_d0_w32) (k0_pay5 v0 v6 v8 v13 v15) k0_pay6) inpos_S1x1x1_p0_0_0) :=
  chk2_of (by rw [second0]; exact row_lt _)

/-- Image 1's first expert. -/
theorem chk3 (v119 : FVec Ideal S8x1 .f32) : k0_chk3 (extractAt ![0, 0, 0] (k0_pay21 v119) inpos_S1x1x1_p0_0_0) :=
  chk3_of (by rw [first1]; exact row_lt _)

/-- Image 1's second expert. -/
theorem chk4 (v119 : FVec Ideal S8x1 .f32) : k0_chk4 (extractAt ![0, 0, 0] (k0_pay24 v119) inpos_S1x1x1_p0_0_0) :=
  chk4_of (by rw [second1]; exact row_lt _)

end Cert.KernelIdeal.Moe
end
-- ==== Proof.Body.lean ====
/-
  THE BODY'S RUN over extended reals: on any whole staging memrefs the body terminates without fault, leaves the seven inputs
  as they were, and leaves in the result's memref a value that the run finds.
-/
module

public import proofs.«01_k».proof.Proof.Gen.KernelIdeal.Frame
public import proofs.«01_k».proof.Proof.Gen.KernelIdeal.Skeleton
public import proofs.«01_k».proof.Proof.Pick
public import Idealize.ShloMosaic.Lib.Tactic

@[expose] public section

set_option maxRecDepth 16384

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

local notation "𝕄" => MT nD τ sig Unit (Elt Ideal) ℕ (UR sig nD τ) ℕ

/-- No variant is counted down: the body has no loop. -/
abbrev 𝒱₀ : Variants := Variants.none

/-- What the body leaves in the result's staging memref — a value the run finds —, with the proof that on whole staging
    memrefs — the seven inputs at `x0 … x6`, the result's at anything — the body runs to the continuation holding the
    inputs as they were and the result at that value. Both images' expert numbers are in range (`chk1` … `chk4`). -/
noncomputable def kernelRun (c : Dev nD) (i : grid0.Coords) (M0 : Memref sig .tc .vmem S2x192x784 .f32) (h0 : M0.IsWhole)
    (M1 : Memref sig .tc .vmem S48x192 .f32) (h1 : M1.IsWhole) (M2 : Memref sig .tc .vmem S48x1 .f32) (h2 : M2.IsWhole)
    (M3 : Memref sig .tc .vmem S8x48 .f32) (h3 : M3.IsWhole) (M4 : Memref sig .tc .vmem S8x1 .f32) (h4 : M4.IsWhole)
    (M5 : Memref sig .tc .vmem S8x192x192 .f32) (h5 : M5.IsWhole) (M6 : Memref sig .tc .vmem S8x192x1 .f32) (h6 : M6.IsWhole)
    (M7 : Memref sig .tc .vmem S2x192x784 .f32) (h7 : M7.IsWhole)
    (x0 : Vec Ideal S2x192x784 .f32) (x1 : Vec Ideal S48x192 .f32) (x2 : Vec Ideal S48x1 .f32) (x3 : Vec Ideal S8x48 .f32)
    (x4 : Vec Ideal S8x1 .f32) (x5 : Vec Ideal S8x192x192 .f32) (x6 : Vec Ideal S8x192x1 .f32) :
    { Y : Vec Ideal S2x192x784 .f32 //
      ∀ (E : Set ℕ) (K : PUnit → sProp 𝕄),
        iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare x4 ∗ owns (c : Thread nD τ) M5 fullShare x5
            ∗ owns (c : Thread nD τ) M6 fullShare x6 ∗ (∃ d, owns (c : Thread nD τ) M7 fullShare d)
            ∗ (iprop(owns (c : Thread nD τ) M0 fullShare x0 ∗ owns (c : Thread nD τ) M1 fullShare x1 ∗ owns (c : Thread nD τ) M2 fullShare x2
              ∗ owns (c : Thread nD τ) M3 fullShare x3 ∗ owns (c : Thread nD τ) M4 fullShare x4 ∗ owns (c : Thread nD τ) M5 fullShare x5
              ∗ owns (c : Thread nD τ) M6 fullShare x6 ∗ owns (c : Thread nD τ) M7 fullShare Y) -∗ K ⟨⟩))
          ⊢ wp frame (wpE (defs₀ (F := Ideal)) 𝒱₀ c none) E (cc0__moe_body i M0 h0 M1 h1 M2 h2 M3 h3 M4 h4 M5 h5 M6 h6 M7 h7) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := h0.eq_unread hf0; obtain rfl := h1.eq_unread hf1; obtain rfl := h2.eq_unread hf2; obtain rfl := h3.eq_unread hf3
    obtain rfl := h4.eq_unread hf4; obtain rfl := h5.eq_unread hf5; obtain rfl := h6.eq_unread hf6
    sl_unfold [cc0__moe_body]
    sl_exec! (disch := first | sl_exact chk1 _ _ _ _ _ | sl_exact chk2 _ _ _ _ _ | sl_exact chk3 _ | sl_exact chk4 _)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; swap; · iexact H7
    ipureintro; rfl

end Cert.KernelIdeal.Moe

end
-- ==== Proof.Rank.lean ====
/-
  THE TWO LARGEST, ONE AFTER THE OTHER AND BY SORTING: a stable descending sort of eight numbers puts first the first place
  of the largest and second — the numbers above −1 — the first place of the largest of the rest.
-/
module

public import proofs.«01_k».proof.Proof.Pick
public import Idealize.ShloMosaic.Lib.SortFacts

@[expose] public section

noncomputable section

namespace Cert.Moe

open Idealize.ShloMosaic

/-- The order a stable descending sort by `p` arranges places in: larger number first, equal numbers by place. -/
def Ahead {n : ℕ} (p : Fin n → EReal) (a b : Fin n) : Prop := p b < p a ∨ (p b = p a ∧ a < b)

/-- One that comes ahead is at least as large. -/
theorem Ahead.le {n : ℕ} {p : Fin n → EReal} {a b : Fin n} (h : Ahead p a b) : p b ≤ p a :=
  h.elim le_of_lt fun q => q.1.le

/-- One that comes ahead of a smaller number is strictly larger. -/
theorem Ahead.lt {n : ℕ} {p : Fin n → EReal} {a b : Fin n} (h : Ahead p a b) (hba : b < a) : p b < p a :=
  h.elim id fun q => absurd q.2 hba.not_gt

/-- Inserting an earlier place into a list arranged so keeps it arranged. -/
theorem ahead_insert {n : ℕ} (p : Fin n → EReal) (a : Fin n) (l : List (Fin n)) (ha : ∀ b ∈ l, a < b) (hl : l.Pairwise (Ahead p)) :
    (insertBefore (fun x y => decide (p y < p x)) a l).Pairwise (Ahead p) := by
  induction l with
  | nil => exact List.pairwise_singleton _ _
  | cons b l ih =>
    rw [List.pairwise_cons] at hl
    unfold insertBefore
    split
    · next h =>
      refine List.pairwise_cons.mpr ⟨fun c hc => ?_, ih (fun c hc => ha c (List.mem_cons_of_mem b hc)) hl.2⟩
      rcases List.mem_cons.mp ((perm_insertBefore _ a l).mem_iff.mp hc) with rfl | hc'
      · exact Or.inl (of_decide_eq_true h)
      · exact hl.1 c hc'
    · next h =>
      have hba : p b ≤ p a := not_lt.mp fun q => h (decide_eq_true q)
      refine List.pairwise_cons.mpr ⟨fun c hc => ?_, List.pairwise_cons.mpr hl⟩
      have hca : p c ≤ p a := by
        rcases List.mem_cons.mp hc with rfl | hc'
        · exact hba
        · exact (hl.1 c hc').le.trans hba
      exact hca.lt_or_eq.imp id fun q => ⟨q, ha c hc⟩

/-- The stable descending sort of a list of increasing places is arranged so. -/
theorem ahead_sort {n : ℕ} (p : Fin n → EReal) (l : List (Fin n)) (hl : l.Pairwise (· < ·)) :
    (stableSort (fun x y => decide (p y < p x)) l).Pairwise (Ahead p) := by
  induction l with
  | nil => exact List.Pairwise.nil
  | cons a l ih =>
    rw [List.pairwise_cons] at hl
    unfold stableSort
    exact ahead_insert p a _ (fun b hb => hl.1 b ((perm_stableSort _ l).mem_iff.mp hb)) (ih hl.2)

/-- The place a stable descending sort by `p` puts at `k`. -/
def ranked {n : ℕ} (p : Fin n → EReal) (k : Fin n) : Fin n := sortedFrom (fun x y => decide (p y < p x)) k

/-- Of two ranks the lower one names the number that comes ahead. -/
theorem ranked_ahead {n : ℕ} (p : Fin n → EReal) (i j : Fin n) (h : i < j) : Ahead p (ranked p i) (ranked p j) := by
  have hs := List.pairwise_iff_get.mp (ahead_sort p (List.finRange n) (List.pairwise_lt_finRange n))
  exact hs (i.cast (length_sortPositions n _).symm) (j.cast (length_sortPositions n _).symm) h

/-- First in rank is the first place of the largest. -/
theorem ranked_zero (p : Fin 8 → EReal) : ranked p 0 = pick p := by
  have h : ∀ k, k = ranked p 0 ∨ Ahead p (ranked p 0) k := fun k => by
    obtain ⟨j, rfl⟩ := sortedFrom_surjective (fun x y => decide (p y < p x)) k
    rcases Nat.eq_zero_or_pos j.val with hj | hj
    · exact Or.inl (congrArg (ranked p) (Fin.ext hj))
    · exact Or.inr (ranked_ahead p 0 j hj)
  refine (pick_unique p _ (fun k => ?_) fun k hk => ?_).symm
  · exact (h k).elim (fun e => e ▸ le_rfl) Ahead.le
  · exact (h k).elim (fun e => absurd hk (e ▸ lt_irrefl _)) fun q => q.lt hk

/-- Second in rank, of numbers above −1, is the first place of the largest of the rest. -/
theorem ranked_one (p : Fin 8 → EReal) (hp : ∀ k, -1 < p k) : ranked p 1 = pick (rest p) := by
  have hne : ranked p 1 ≠ pick p := fun e =>
    absurd (sortedFrom_injective _ (e.trans (ranked_zero p).symm)) (by decide)
  have h1 : rest p (ranked p 1) = p (ranked p 1) := if_neg hne
  have h : ∀ k, k ≠ pick p → k = ranked p 1 ∨ Ahead p (ranked p 1) k := fun k hk => by
    obtain ⟨j, rfl⟩ := sortedFrom_surjective (fun x y => decide (p y < p x)) k
    rcases Nat.lt_trichotomy j.val 1 with hj | hj | hj
    · have : j = 0 := Fin.ext (by simpa using hj)
      subst this
      exact absurd (ranked_zero p) hk
    · exact Or.inl (congrArg (ranked p) (Fin.ext hj))
    · exact Or.inr (ranked_ahead p 1 j hj)
  refine (pick_unique (rest p) _ (fun k => ?_) fun k hk => ?_).symm
  all_goals
    rw [h1]
    by_cases e : k = pick p
    · rw [rest, if_pos e]
      first | exact (hp _).le | exact hp _
    · rw [rest, if_neg e]
      first
        | exact (h k e).elim (fun e => e ▸ le_rfl) Ahead.le
        | exact (h k e).elim (fun e => absurd hk (e ▸ lt_irrefl _)) fun q => q.lt hk

end Cert.Moe
end
-- ==== Proof.Spec.lean ====
/-
  THE LAYER, in extended reals, twice — the chosen experts mixed first, and every expert weighted: a gate (mean of each channel, two small matrix products with a rectifier between them, a
  softmax over the eight experts), the two largest shares normalised to sum to one up to a small constant, and the mix of
  the experts' outputs added to the image.
-/
module

public import proofs.«01_k».proof.Proof.Rank

@[expose] public section

noncomputable section

namespace Cert.Moe

open Idealize.ShloMosaic

/-- The number of pixels the channel mean divides by. -/
def pixels : EReal := Ideal.ofBits .f32 0x44440000#32
/-- The small constant added to the two shares before they are normalised. -/
def small : EReal := Ideal.ofBits .f32 0x322BCC77#32

/-- The gate's hidden layer, from the channel sums `s`. -/
def hidden (Wg1 : Fin 48 → Fin 192 → EReal) (bg1 : Fin 48 → EReal) (s : Fin 192 → EReal) (h : Fin 48) : EReal :=
  max (∑ c, Wg1 h c * Ideal.div (s c) pixels + bg1 h) 0

/-- The gate's logits, from the hidden layer. -/
def logit (Wg2 : Fin 8 → Fin 48 → EReal) (bg2 : Fin 8 → EReal) (hid : Fin 48 → EReal) (e : Fin 8) : EReal :=
  ∑ h, Wg2 e h * hid h + bg2 e

/-- The softmax of eight logits. -/
def soft (l : Fin 8 → EReal) (e : Fin 8) : EReal :=
  Ideal.div (Ideal.exp (l e - top l)) (∑ k, Ideal.exp (l k - top l))

/-- The gate: the experts' shares, from the channel sums. -/
def gate (Wg1 : Fin 48 → Fin 192 → EReal) (bg1 : Fin 48 → EReal) (Wg2 : Fin 8 → Fin 48 → EReal) (bg2 : Fin 8 → EReal)
    (s : Fin 192 → EReal) : Fin 8 → EReal :=
  soft (logit Wg2 bg2 (hidden Wg1 bg1 s))

/-- What the kernel multiplies the two largest shares by: one over their sum and the small constant. -/
def scale (p : Fin 8 → EReal) : EReal := Ideal.div 1 (top p + top (rest p) + small)

/-- The layer's output at channel `o` and one pixel, from the shares `p`, the experts and the image's pixel: the two chosen
    experts' matrices mixed first, then applied. -/
def mixed (p : Fin 8 → EReal) (W : Fin 8 → Fin 192 → Fin 192 → EReal) (b : Fin 8 → Fin 192 → EReal) (x : Fin 192 → EReal)
    (o : Fin 192) : EReal :=
  ∑ c, (top p * scale p * W (pick p) o c + top (rest p) * scale p * W (pick (rest p)) o c) * x c
    + (top p * scale p * b (pick p) o + top (rest p) * scale p * b (pick (rest p)) o) + x o

/-- The mask over the experts: one at the two first in rank of the shares, zero elsewhere. -/
def chosen (p : Fin 8 → EReal) (e : Fin 8) : EReal := if e = ranked p 0 ∨ e = ranked p 1 then 1 else 0

/-- The weight of an expert: its masked share over the masked shares' sum and the small constant. -/
def weight (p : Fin 8 → EReal) (e : Fin 8) : EReal := Ideal.div (p e * chosen p e) (∑ k, p k * chosen p k + small)

/-- The layer's output the plain way: every expert's output at the pixel, weighted and summed, and the image added. -/
def plain (p : Fin 8 → EReal) (W : Fin 8 → Fin 192 → Fin 192 → EReal) (b : Fin 8 → Fin 192 → EReal) (x : Fin 192 → EReal)
    (o : Fin 192) : EReal :=
  ∑ e, weight p e * (∑ c, W e o c * x c + b e o) + x o

end Cert.Moe
end
-- ==== Proof.Block.lean ====
/-
  WHAT ONE GRID POINT COMPUTES: the gate's payload at an expert, the two images' output payloads at a channel and a pixel —
  the layer (`Moe.mixed`) of the image's own gate and of the two expert slabs its load names — and the block the run leaves
  in the result's staging buffer, whose image `b` is the layer of the input block's image `b`.
-/
module

public import proofs.«01_k».proof.Proof.Body
public import proofs.«01_k».proof.Proof.Spec
public import Idealize.ShloMosaic.Lib.Pointwise
public import Idealize.ShloMosaic.Lib.Pipeline.ValueKit
public import Idealize.ShloMosaic.Lib.Tactic.Stretches

@[expose] public section

set_option maxRecDepth 16384

noncomputable section

namespace Cert.KernelIdeal.Moe

open Cert.KernelIdeal Cert.KernelIdeal.Gen
open Cert.Moe
open Idealize.ShloMosaic Idealize.ShloMosaic.Tactic

/-- The gate of an image, from the block's vectors. -/
def gateOf (v : Vec Ideal S1x192x784 .f32) (x1 : Vec Ideal S48x192 .f32) (x2 : Vec Ideal S48x1 .f32) (x3 : Vec Ideal S8x48 .f32)
    (x4 : Vec Ideal S8x1 .f32) : Fin 8 → EReal :=
  gate (fun h c => x1 (ix2 h c)) (fun h => x2 (ix2 h 0)) (fun e h => x3 (ix2 e h)) (fun e => x4 (ix2 e 0)) (fun c => ∑ n : Fin 784, v (ix3 0 c n))

/-- The logits, as the kernel computes them. -/
def logitV (v0 : Vec Ideal S1x192x784 .f32) (v6 : Vec Ideal S48x192 .f32) (v8 : Vec Ideal S48x1 .f32) (v13 : Vec Ideal S8x48 .f32) (v15 : Vec Ideal S8x1 .f32) (e : Fin 8) : EReal :=
  logit (fun e h => v13 (ix2 e h)) (fun e => v15 (ix2 e 0)) (Cert.Moe.hidden (fun h c => v6 (ix2 h c)) (fun h => v8 (ix2 h 0)) (fun c => ∑ n : Fin 784, v0 (ix3 0 c n))) e

/-- The kernel's softmax is the gate. -/
theorem gate_read (v0 : Vec Ideal S1x192x784 .f32) (v6 : Vec Ideal S48x192 .f32) (v8 : Vec Ideal S48x1 .f32) (v13 : Vec Ideal S8x48 .f32) (v15 : Vec Ideal S8x1 .f32) :
    col (k0_pay3 v0 v6 v8 v13 v15) = gateOf v0 v6 v8 v13 v15 := by
  funext e
  show (k0_pay3 v0 v6 v8 v13 v15 (ix2 e 0) : EReal) = _
  unfold k0_pay3 k0_pay2
  dsimp only
  pointwise
  rw [ofBits_neg_infinity]
  have hm := fold_rows max (⊥ : EReal) (logitV v0 v6 v8 v13 v15)
  unfold logitV at hm
  unfold logit Cert.Moe.hidden pixels at hm
  rw [hm]
  simp only [Fin.sum_univ_one]
  rfl

/-- Image 1's gate is the same computation. -/
theorem gate1_eq (v0 : Vec Ideal S1x192x784 .f32) (v6 : Vec Ideal S48x192 .f32) (v8 : Vec Ideal S48x1 .f32) (v13 : Vec Ideal S8x48 .f32) (v15 : Vec Ideal S8x1 .f32) :
    k0_pay19 (k0_pay18 v0 v6 v8 v13 v15) = k0_pay3 v0 v6 v8 v13 v15 := by
  unfold k0_pay19 k0_pay18 k0_pay17 k0_pay3 k0_pay2; rfl

/-- An expert's matrix, as the dynamic load reads it. -/
theorem slab_W (x : Vec Ideal S8x192x192 .f32) (i : Fin 8) (off : Fin 3 → Nat) (inb) (h : off = ![i.val, 0, 0]) (o c : Fin 192) :
    View.ld x (Rect.unit off S1x192x192.size inb) (ix3 0 o c) = x (ix3 i o c) := by
  subst h; pointwise

/-- An expert's bias, as the dynamic load reads it. -/
theorem slab_b (x : Vec Ideal S8x192x1 .f32) (i : Fin 8) (off : Fin 3 → Nat) (inb) (h : off = ![i.val, 0, 0]) (o : Fin 192) :
    View.ld x (Rect.unit off S1x192x1.size inb) (ix3 0 o 0) = x (ix3 i o 0) := by
  subst h; pointwise

/-- Image 0's output payload at a channel and a pixel: the layer of image 0's gate, at the slabs loaded. -/
theorem out0 (v0 : Vec Ideal S1x192x784 .f32) (v6 : Vec Ideal S48x192 .f32) (v8 : Vec Ideal S48x1 .f32) (v13 : Vec Ideal S8x48 .f32) (v15 : Vec Ideal S8x1 .f32)
    (v66 v69 : Vec Ideal S1x192x192 .f32) (v77 v83 : Vec Ideal S1x192x1 .f32) (W : Fin 8 → Fin 192 → Fin 192 → EReal) (b : Fin 8 → Fin 192 → EReal)
    (h66 : ∀ o c, v66 (ix3 0 o c) = W (pick (gateOf v0 v6 v8 v13 v15)) o c) (h69 : ∀ o c, v69 (ix3 0 o c) = W (pick (rest (gateOf v0 v6 v8 v13 v15))) o c)
    (h77 : ∀ o, v77 (ix3 0 o 0) = b (pick (gateOf v0 v6 v8 v13 v15)) o) (h83 : ∀ o, v83 (ix3 0 o 0) = b (pick (rest (gateOf v0 v6 v8 v13 v15))) o)
    (o : Fin 192) (n : Fin 784) :
    k0_pay16 (k0_pay2 v0) (k0_pay13 (k0_pay3 v0 v6 v8 v13 v15) (iota .tc S8x1 32 [0] iota_S8x1_d0_w32) (k0_pay4 v0 v6 v8 v13 v15) (k0_pay5 v0 v6 v8 v13 v15) k0_pay6)
        (k0_pay14 (k0_pay3 v0 v6 v8 v13 v15) (iota .tc S8x1 32 [0] iota_S8x1_d0_w32) (k0_pay4 v0 v6 v8 v13 v15) (k0_pay5 v0 v6 v8 v13 v15) k0_pay6 v66 v69)
        (k0_pay15 (k0_pay3 v0 v6 v8 v13 v15) (iota .tc S8x1 32 [0] iota_S8x1_d0_w32) (k0_pay4 v0 v6 v8 v13 v15) (k0_pay5 v0 v6 v8 v13 v15) k0_pay6 v77) v83 (ix3 0 o n)
      = mixed (gateOf v0 v6 v8 v13 v15) W b (fun c => v0 (ix3 0 c n)) o := by
  have e4 : k0_pay4 v0 v6 v8 v13 v15 = top (gateOf v0 v6 v8 v13 v15) := by
    rw [← gate_read, ← topV_eq]; unfold k0_pay4 topV; rfl
  have e9 : k0_pay9 (k0_pay3 v0 v6 v8 v13 v15) (iota .tc S8x1 32 [0] iota_S8x1_d0_w32) (k0_pay5 v0 v6 v8 v13 v15) k0_pay6 = top (rest (gateOf v0 v6 v8 v13 v15)) := by
    rw [← gate_read, ← restV_eq, ← topV_eq]; unfold k0_pay9; rw [rest0]; unfold topV; rfl
  have e11 : k0_pay11 (k0_pay3 v0 v6 v8 v13 v15) (iota .tc S8x1 32 [0] iota_S8x1_d0_w32) (k0_pay4 v0 v6 v8 v13 v15) (k0_pay5 v0 v6 v8 v13 v15) k0_pay6
      = scale (gateOf v0 v6 v8 v13 v15) := by
    unfold k0_pay11; rw [e9, e4]; unfold scale small; pointwise
  unfold k0_pay16 k0_pay14 k0_pay15 k0_pay12 k0_pay13 k0_pay2
  rw [e11, e9, e4]
  dsimp only
  pointwise
  simp only [h66, h69, h77, h83]
  rfl

/-- Image 1's output payload at a channel and a pixel: the layer of image 1's gate, at the slabs loaded. -/
theorem out1 (v0 : Vec Ideal S1x192x784 .f32) (v6 : Vec Ideal S48x192 .f32) (v8 : Vec Ideal S48x1 .f32) (v13 : Vec Ideal S8x48 .f32) (v15 : Vec Ideal S8x1 .f32)
    (v66 v69 : Vec Ideal S1x192x192 .f32) (v77 v83 : Vec Ideal S1x192x1 .f32) (W : Fin 8 → Fin 192 → Fin 192 → EReal) (b : Fin 8 → Fin 192 → EReal)
    (h66 : ∀ o c, v66 (ix3 0 o c) = W (pick (gateOf v0 v6 v8 v13 v15)) o c) (h69 : ∀ o c, v69 (ix3 0 o c) = W (pick (rest (gateOf v0 v6 v8 v13 v15))) o c)
    (h77 : ∀ o, v77 (ix3 0 o 0) = b (pick (gateOf v0 v6 v8 v13 v15)) o) (h83 : ∀ o, v83 (ix3 0 o 0) = b (pick (rest (gateOf v0 v6 v8 v13 v15))) o)
    (o : Fin 192) (n : Fin 784) :
    k0_pay1 (k0_pay17 v0) (k0_pay26 (k0_pay18 v0 v6 v8 v13 v15)) (k0_pay27 (k0_pay18 v0 v6 v8 v13 v15)) (k0_pay28 v66) v69 v77 v83 (ix3 0 o n)
      = mixed (gateOf v0 v6 v8 v13 v15) W b (fun c => v0 (ix3 0 c n)) o := by
  have e20 : k0_pay20 (k0_pay18 v0 v6 v8 v13 v15) = top (gateOf v0 v6 v8 v13 v15) := by
    rw [← gate_read, ← topV_eq, ← gate1_eq]; unfold k0_pay20 topV; rfl
  have e23 : k0_pay23 (k0_pay18 v0 v6 v8 v13 v15) = top (rest (gateOf v0 v6 v8 v13 v15)) := by
    rw [← gate_read, ← restV_eq, ← topV_eq, ← gate1_eq]; unfold k0_pay23; rw [rest1]; unfold topV; rfl
  have e25 : k0_pay25 (k0_pay18 v0 v6 v8 v13 v15) = scale (gateOf v0 v6 v8 v13 v15) := by
    unfold k0_pay25; rw [e20, e23]; unfold scale small; pointwise
  unfold k0_pay1 k0_pay26 k0_pay27 k0_pay28 k0_pay17
  rw [e25, e20, e23]
  dsimp only
  pointwise
  simp only [h66, h69, h77, h83]
  rfl

/-- The same row is the same offset. -/
theorem slot {w : BitVec 32} {k : Nat} (h : w.toNat = k) : (![(Scalar.indexCast w).toNat, 0, 0] : Fin 3 → Nat) = ![k, 0, 0] := by
  subst h; rfl

/-- Where image 0's first expert's slab starts. -/
theorem at_first0 (v0 : Vec Ideal S1x192x784 .f32) (v6 : Vec Ideal S48x192 .f32) (v8 : Vec Ideal S48x1 .f32) (v13 : Vec Ideal S8x48 .f32) (v15 : Vec Ideal S8x1 .f32) :
    (extractAt ![0, 0, 0] (k0_pay7 (iota .tc S8x1 32 [0] iota_S8x1_d0_w32) (k0_pay5 v0 v6 v8 v13 v15) k0_pay6) inpos_S1x1x1_p0_0_0).toNat
      = (pick (gateOf v0 v6 v8 v13 v15)).val := by
  rw [first0, row_toNat, gate_read]

/-- Where image 0's second expert's slab starts. -/
theorem at_second0 (v0 : Vec Ideal S1x192x784 .f32) (v6 : Vec Ideal S48x192 .f32) (v8 : Vec Ideal S48x1 .f32) (v13 : Vec Ideal S8x48 .f32) (v15 : Vec Ideal S8x1 .f32) :
    (extractAt ![0, 0, 0] (k0_pay10 (k0_pay3 v0 v6 v8 v13 v15) (iota .tc S8x1 32 [0] iota_S8x1_d0_w32) (k0_pay5 v0 v6 v8 v13 v15) k0_pay6) inpos_S1x1x1_p0_0_0).toNat
      = (pick (rest (gateOf v0 v6 v8 v13 v15))).val := by
  rw [second0, row_toNat, restV_eq, gate_read]

/-- Where image 1's first expert's slab starts. -/
theorem at_first1 (v0 : Vec Ideal S1x192x784 .f32) (v6 : Vec Ideal S48x192 .f32) (v8 : Vec Ideal S48x1 .f32) (v13 : Vec Ideal S8x48 .f32) (v15 : Vec Ideal S8x1 .f32) :
    (extractAt ![0, 0, 0] (k0_pay21 (k0_pay18 v0 v6 v8 v13 v15)) inpos_S1x1x1_p0_0_0).toNat = (pick (gateOf v0 v6 v8 v13 v15)).val := by
  rw [first1, row_toNat, gate1_eq, gate_read]

/-- Where image 1's second expert's slab starts. -/
theorem at_second1 (v0 : Vec Ideal S1x192x784 .f32) (v6 : Vec Ideal S48x192 .f32) (v8 : Vec Ideal S48x1 .f32) (v13 : Vec Ideal S8x48 .f32) (v15 : Vec Ideal S8x1 .f32) :
    (extractAt ![0, 0, 0] (k0_pay24 (k0_pay18 v0 v6 v8 v13 v15)) inpos_S1x1x1_p0_0_0).toNat = (pick (rest (gateOf v0 v6 v8 v13 v15))).val := by
  rw [second1, row_toNat, restV_eq, gate1_eq, gate_read]

/-- The block's image `b`, channel `o`, pixel `n`: the layer of the input block's image `b`. -/
def blockAt (x0 : Vec Ideal S2x192x784 .f32) (x1 : Vec Ideal S48x192 .f32) (x2 : Vec Ideal S48x1 .f32) (x3 : Vec Ideal S8x48 .f32)
    (x4 : Vec Ideal S8x1 .f32) (x5 : Vec Ideal S8x192x192 .f32) (x6 : Vec Ideal S8x192x1 .f32) (b : Fin 2) (o : Fin 192) (n : Fin 784) : EReal :=
  mixed (gate (fun h c => x1 (ix2 h c)) (fun h => x2 (ix2 h 0)) (fun e h => x3 (ix2 e h)) (fun e => x4 (ix2 e 0)) (fun c => ∑ n : Fin 784, x0 (ix3 b c n)))
    (fun e o c => x5 (ix3 e o c)) (fun e o => x6 (ix3 e o 0)) (fun c => x0 (ix3 b c n)) o

/-- One image's layer from the loaded vectors is the block's at that image: a load of one image reads that image, a load of a
    whole staging memref reads all of it. -/
theorem piece (x0 : Vec Ideal S2x192x784 .f32) (x1 : Vec Ideal S48x192 .f32) (x2 : Vec Ideal S48x1 .f32) (x3 : Vec Ideal S8x48 .f32)
    (x4 : Vec Ideal S8x1 .f32) (x5 : Vec Ideal S8x192x192 .f32) (x6 : Vec Ideal S8x192x1 .f32) (b : Fin 2) (off : Fin 3 → Nat) (hoff : off = ![b.val, 0, 0])
    (inb0 inb1 inb2 inb3 inb4) (o : Fin 192) (n : Fin 784) :
    mixed (gateOf (View.ld x0 (Rect.unit off S1x192x784.size inb0)) (View.ld x1 (Rect.unit ![0, 0] S48x192.size inb1))
        (View.ld x2 (Rect.unit ![0, 0] S48x1.size inb2)) (View.ld x3 (Rect.unit ![0, 0] S8x48.size inb3)) (View.ld x4 (Rect.unit ![0, 0] S8x1.size inb4)))
      (fun e o c => x5 (ix3 e o c)) (fun e o => x6 (ix3 e o 0)) (fun c => View.ld x0 (Rect.unit off S1x192x784.size inb0) (ix3 0 c n)) o
      = blockAt x0 x1 x2 x3 x4 x5 x6 b o n := by
  subst hoff
  have z : ∀ a : Fin 2, (![0, 0] : Fin 2 → Nat) a = 0 := by decide
  rw [View.ld_unit_lit _ _ z, View.ld_unit_lit _ _ z, View.ld_unit_lit _ _ z, View.ld_unit_lit _ _ z]
  have e : ∀ c n, View.ld x0 (Rect.unit ![b.val, 0, 0] S1x192x784.size inb0) (ix3 0 c n) = x0 (ix3 b c n) := by
    intro c n; pointwise
  unfold blockAt gateOf
  simp only [e]

/-- The block the run leaves, at image `x 0`, channel `x 1` and pixel `x 2`. -/
theorem block_value (c : Dev nD) (i : grid0.Coords) (M0 : Memref sig .tc .vmem S2x192x784 .f32) (h0 : M0.IsWhole)
    (M1 : Memref sig .tc .vmem S48x192 .f32) (h1 : M1.IsWhole) (M2 : Memref sig .tc .vmem S48x1 .f32) (h2 : M2.IsWhole)
    (M3 : Memref sig .tc .vmem S8x48 .f32) (h3 : M3.IsWhole) (M4 : Memref sig .tc .vmem S8x1 .f32) (h4 : M4.IsWhole)
    (M5 : Memref sig .tc .vmem S8x192x192 .f32) (h5 : M5.IsWhole) (M6 : Memref sig .tc .vmem S8x192x1 .f32) (h6 : M6.IsWhole)
    (M7 : Memref sig .tc .vmem S2x192x784 .f32) (h7 : M7.IsWhole)
    (x0 : Vec Ideal S2x192x784 .f32) (x1 : Vec Ideal S48x192 .f32) (x2 : Vec Ideal S48x1 .f32) (x3 : Vec Ideal S8x48 .f32)
    (x4 : Vec Ideal S8x1 .f32) (x5 : Vec Ideal S8x192x192 .f32) (x6 : Vec Ideal S8x192x1 .f32) (y : S2x192x784.Idx) :
    (kernelRun c i M0 h0 M1 h1 M2 h2 M3 h3 M4 h4 M5 h5 M6 h6 M7 h7 x0 x1 x2 x3 x4 x5 x6).1 y = blockAt x0 x1 x2 x3 x4 x5 x6 (y 0) (y 1) (y 2) := by
  unfold kernelRun
  dsimp only
  rw [View.read_writes_junk_apply_eq_canon]
  sl_unfold_words
  simp only [View.readAt_eq_ld, h0.read_unread, h1.read_unread, h2.read_unread, h3.read_unread, h4.read_unread, h5.read_unread, h6.read_unread]
  canon_tiles x hh
  · obtain ⟨u, o, n, rfl⟩ : ∃ u o n, x = ix3 u o n := ⟨_, _, _, eq_ix3 x⟩
    obtain rfl : u = 0 := Subsingleton.elim _ _
    rw [show y 0 = (1 : Fin 2) from Fin.ext hh0, show y 1 = o from Fin.ext hh1, show y 2 = n from Fin.ext hh2]
    refine (out1 _ _ _ _ _ _ _ _ _ (fun e o c => x5 (ix3 e o c)) (fun e o => x6 (ix3 e o 0)) (fun o c => slab_W _ _ _ _ ?_ o c)
      (fun o c => slab_W _ _ _ _ ?_ o c) (fun o => slab_b _ _ _ _ ?_ o) (fun o => slab_b _ _ _ _ ?_ o) _ _).trans
      (piece x0 x1 x2 x3 x4 x5 x6 1 _ rfl _ _ _ _ _ _ _)
    all_goals simp only [h0.read_unread, h1.read_unread, h2.read_unread, h3.read_unread, h4.read_unread]
    · exact slot (at_first1 _ _ _ _ _)
    · exact slot (at_second1 _ _ _ _ _)
    · exact slot (at_first1 _ _ _ _ _)
    · exact slot (at_second1 _ _ _ _ _)
  · obtain ⟨u, o, n, rfl⟩ : ∃ u o n, x = ix3 u o n := ⟨_, _, _, eq_ix3 x⟩
    obtain rfl : u = 0 := Subsingleton.elim _ _
    rw [show y 0 = (0 : Fin 2) from Fin.ext hh0, show y 1 = o from Fin.ext hh1, show y 2 = n from Fin.ext hh2]
    refine (out0 _ _ _ _ _ _ _ _ _ (fun e o c => x5 (ix3 e o c)) (fun e o => x6 (ix3 e o 0)) (fun o c => slab_W _ _ _ _ ?_ o c)
      (fun o c => slab_W _ _ _ _ ?_ o c) (fun o => slab_b _ _ _ _ ?_ o) (fun o => slab_b _ _ _ _ ?_ o) _ _).trans
      (piece x0 x1 x2 x3 x4 x5 x6 0 _ rfl _ _ _ _ _ _ _)
    all_goals simp only [h0.read_unread, h1.read_unread, h2.read_unread, h3.read_unread, h4.read_unread]
    · exact slot (at_first0 _ _ _ _ _)
    · exact slot (at_second0 _ _ _ _ _)
    · exact slot (at_first0 _ _ _ _ _)
    · exact slot (at_second0 _ _ _ _ _)

end Cert.KernelIdeal.Moe
end
-- ==== Proof.Run.lean ====
/-
  THE RUN: the pipeline's proof data — each input's staging buffer holds its block, the result's what the body leaves —, the
  body obligation from the body's run, the run of the whole program, and from it the frame.
-/
module

public import proofs.«01_k».proof.Proof.Body

@[expose] public section

set_option maxRecDepth 16384

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable (m : (ℓ : Loc nD τ sig) → Buf (Elt Ideal) ℓ) (ρ : Dev nD → PrngReg)

/-! ## The staging memrefs at a point -/

/-- The buffer that holds the image's block at a grid point. -/
abbrev mem0 (t : Fin cfg0.N) : Memref sig .tc .vmem S2x192x784 .f32 := win0_0.stage (cfg0.slots t 0)
/-- That buffer is a whole one. -/
abbrev whole0 (t : Fin cfg0.N) : (mem0 t).IsWhole := hstage0_0 ((cfg0.slots t 0).cast nbuf0_0)
/-- The buffer that holds the gate's first matrix's block at a grid point. -/
abbrev mem1 (t : Fin cfg0.N) : Memref sig .tc .vmem S48x192 .f32 := win0_1.stage (cfg0.slots t 1)
/-- That buffer is a whole one. -/
abbrev whole1 (t : Fin cfg0.N) : (mem1 t).IsWhole := hstage0_1 ((cfg0.slots t 1).cast nbuf0_1)
/-- The buffer that holds the hidden offset's block at a grid point. -/
abbrev mem2 (t : Fin cfg0.N) : Memref sig .tc .vmem S48x1 .f32 := win0_2.stage (cfg0.slots t 2)
/-- That buffer is a whole one. -/
abbrev whole2 (t : Fin cfg0.N) : (mem2 t).IsWhole := hstage0_2 ((cfg0.slots t 2).cast nbuf0_2)
/-- The buffer that holds the gate's second matrix's block at a grid point. -/
abbrev mem3 (t : Fin cfg0.N) : Memref sig .tc .vmem S8x48 .f32 := win0_3.stage (cfg0.slots t 3)
/-- That buffer is a whole one. -/
abbrev whole3 (t : Fin cfg0.N) : (mem3 t).IsWhole := hstage0_3 ((cfg0.slots t 3).cast nbuf0_3)
/-- The buffer that holds the gate's second offset's block at a grid point. -/
abbrev mem4 (t : Fin cfg0.N) : Memref sig .tc .vmem S8x1 .f32 := win0_4.stage (cfg0.slots t 4)
/-- That buffer is a whole one. -/
abbrev whole4 (t : Fin cfg0.N) : (mem4 t).IsWhole := hstage0_4 ((cfg0.slots t 4).cast nbuf0_4)
/-- The buffer that holds the experts' matrices's block at a grid point. -/
abbrev mem5 (t : Fin cfg0.N) : Memref sig .tc .vmem S8x192x192 .f32 := win0_5.stage (cfg0.slots t 5)
/-- That buffer is a whole one. -/
abbrev whole5 (t : Fin cfg0.N) : (mem5 t).IsWhole := hstage0_5 ((cfg0.slots t 5).cast nbuf0_5)
/-- The buffer that holds the experts' offsets's block at a grid point. -/
abbrev mem6 (t : Fin cfg0.N) : Memref sig .tc .vmem S8x192x1 .f32 := win0_6.stage (cfg0.slots t 6)
/-- That buffer is a whole one. -/
abbrev whole6 (t : Fin cfg0.N) : (mem6 t).IsWhole := hstage0_6 ((cfg0.slots t 6).cast nbuf0_6)
/-- The buffer that holds the result's block at a grid point. -/
abbrev mem7 (t : Fin cfg0.N) : Memref sig .tc .vmem S2x192x784 .f32 := win0_7.stage (cfg0.slots t 7)
/-- That buffer is a whole one. -/
abbrev whole7 (t : Fin cfg0.N) : (mem7 t).IsWhole := hstage0_7 ((cfg0.slots t 7).cast nbuf0_7)

/-- The block the body leaves in the result's staging buffer at a point. -/
def outsAt (c : Dev nD) (t : Fin cfg0.N) : Vec Ideal S2x192x784 .f32 :=
  (kernelRun c (grid0.coords t) (mem0 t) (whole0 t) (mem1 t) (whole1 t) (mem2 t) (whole2 t) (mem3 t) (whole3 t) (mem4 t) (whole4 t) (mem5 t) (whole5 t) (mem6 t) (whole6 t) (mem7 t) (whole7 t)
    (iblk m c 0 t) (iblk m c 1 t) (iblk m c 2 t) (iblk m c 3 t) (iblk m c 4 t) (iblk m c 5 t) (iblk m c 6 t)).1

/-- The pipeline's proof data: the arrays as the region finds them; after the body each input's buffer at its block and the
    result's at `outsAt`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t
  Φ _ := Pipeline.ΦA spec0 c
  q _ := fullShare
  owed _ := 0

/-! The data read back: the arrays, and each window's buffer after and before the body. -/

/-- The arrays at the region's start are those that the host code before it left. -/
theorem A_eq (c : Dev nD) (w : Fin cfg0.W) : (dats m 0 c).A w = V m c (Pipeline.arrRef spec0 w) := rfl
/-- The body leaves the image's block as it was loaded. -/
theorem after0_0 (c : Dev nD) (t : Fin cfg0.N) : (dats m 0 c).after 0 t = iblk m c 0 t := by dsimp only [dats]
/-- The body leaves the gate's first matrix's block as it was loaded. -/
theorem after0_1 (c : Dev nD) (t : Fin cfg0.N) : (dats m 0 c).after 1 t = iblk m c 1 t := by dsimp only [dats]
/-- The body leaves the hidden offset's block as it was loaded. -/
theorem after0_2 (c : Dev nD) (t : Fin cfg0.N) : (dats m 0 c).after 2 t = iblk m c 2 t := by dsimp only [dats]
/-- The body leaves the gate's second matrix's block as it was loaded. -/
theorem after0_3 (c : Dev nD) (t : Fin cfg0.N) : (dats m 0 c).after 3 t = iblk m c 3 t := by dsimp only [dats]
/-- The body leaves the gate's second offset's block as it was loaded. -/
theorem after0_4 (c : Dev nD) (t : Fin cfg0.N) : (dats m 0 c).after 4 t = iblk m c 4 t := by dsimp only [dats]
/-- The body leaves the experts' matrices's block as it was loaded. -/
theorem after0_5 (c : Dev nD) (t : Fin cfg0.N) : (dats m 0 c).after 5 t = iblk m c 5 t := by dsimp only [dats]
/-- The body leaves the experts' offsets's block as it was loaded. -/
theorem after0_6 (c : Dev nD) (t : Fin cfg0.N) : (dats m 0 c).after 6 t = iblk m c 6 t := by dsimp only [dats]
/-- The body leaves the computed block in the result's buffer. -/
theorem after0_7 (c : Dev nD) (t : Fin cfg0.N) : (dats m 0 c).after 7 t = outsAt m c t := by dsimp only [dats]
/-- Before the body the image's buffer holds the block of this grid point. -/
theorem before0_0 (c : Dev nD) (t : Fin cfg0.N) (d) : (dats m 0 c).before 0 t d = iblk m c 0 t :=
  before0_0_of m (dats m 0 c) (A_eq m c 0) (after0_0 m c) t d
/-- Before the body the gate's first matrix's buffer holds the block of this grid point. -/
theorem before0_1 (c : Dev nD) (t : Fin cfg0.N) (d) : (dats m 0 c).before 1 t d = iblk m c 1 t :=
  before0_1_of m (dats m 0 c) (A_eq m c 1) (after0_1 m c) t d
/-- Before the body the hidden offset's buffer holds the block of this grid point. -/
theorem before0_2 (c : Dev nD) (t : Fin cfg0.N) (d) : (dats m 0 c).before 2 t d = iblk m c 2 t :=
  before0_2_of m (dats m 0 c) (A_eq m c 2) (after0_2 m c) t d
/-- Before the body the gate's second matrix's buffer holds the block of this grid point. -/
theorem before0_3 (c : Dev nD) (t : Fin cfg0.N) (d) : (dats m 0 c).before 3 t d = iblk m c 3 t :=
  before0_3_of m (dats m 0 c) (A_eq m c 3) (after0_3 m c) t d
/-- Before the body the gate's second offset's buffer holds the block of this grid point. -/
theorem before0_4 (c : Dev nD) (t : Fin cfg0.N) (d) : (dats m 0 c).before 4 t d = iblk m c 4 t :=
  before0_4_of m (dats m 0 c) (A_eq m c 4) (after0_4 m c) t d
/-- Before the body the experts' matrices's buffer holds the block of this grid point. -/
theorem before0_5 (c : Dev nD) (t : Fin cfg0.N) (d) : (dats m 0 c).before 5 t d = iblk m c 5 t :=
  before0_5_of m (dats m 0 c) (A_eq m c 5) (after0_5 m c) t d
/-- Before the body the experts' offsets's buffer holds the block of this grid point. -/
theorem before0_6 (c : Dev nD) (t : Fin cfg0.N) (d) : (dats m 0 c).before 6 t d = iblk m c 6 t :=
  before0_6_of m (dats m 0 c) (A_eq m c 6) (after0_6 m c) t d

/-- The body obligation: at every point the table's entry is the body on the point's staging memrefs, whose input memrefs hold
    their blocks, so the body's run applies. -/
theorem body_obligation (c : Dev nD) : BodyObligation (dats m 0 c) (defs₀ (F := Ideal)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7]
  unfold outsAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) (mem0 t) (whole0 t) (mem1 t) (whole1 t) (mem2 t) (whole2 t) (mem3 t) (whole3 t) (mem4 t) (whole4 t) (mem5 t) (whole5 t) (mem6 t) (whole6 t) (mem7 t) (whole7 t)
    (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
/-- From any memory with zero counters the program terminates without fault; at the end every array of the pipeline holds what
    the proof data say, every other buffer what the host operations after the region leave, and every counter is zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_with_sems (frame_of m ρ (dats m) fun _ _ => rfl) (run_main m ρ)

end Cert.KernelIdeal.Moe
end
-- ==== Proof.Array.lean ====
/-
  WHAT THE RESULT'S ARRAY HOLDS: the blocks read in the arguments, the pipelined array after the run as one function of the
  arguments, the host's reshape of it, and the run of the whole program with its result named.
-/
module

public import proofs.«01_k».proof.Proof.Block
public import proofs.«01_k».proof.Proof.Run

@[expose] public section

set_option maxRecDepth 16384

noncomputable section

namespace Cert.KernelIdeal.Moe

open Cert.KernelIdeal Cert.KernelIdeal.Gen
open Cert.Moe
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- Where the windows' blocks lie: the image's and the result's at the grid point's own pair of images, the rest whole. -/
theorem places (t : Fin grid0.N) :
    win0_0.index t = ![t.val, 0, 0] ∧ win0_1.index t = ![0, 0] ∧ win0_2.index t = ![0, 0] ∧ win0_3.index t = ![0, 0]
      ∧ win0_4.index t = ![0, 0] ∧ win0_5.index t = ![0, 0, 0] ∧ win0_6.index t = ![0, 0, 0]
      ∧ win0_7.index t = ![t.val, 0, 0] := by
  revert t; decide +kernel

/-- The row and the column of the `n`-th pixel of an image. -/
def rowOf (n : Fin 784) : Fin 28 := ⟨n.val / 28, by omega⟩
/-- The column of a pixel, from its number in the flattened image. -/
def colOf (n : Fin 784) : Fin 28 := ⟨n.val % 28, by omega⟩

/-- The image's block at a point: its image `b` is the argument's image `2 t + b`, row by row. -/
theorem block_x (c : Dev nD) (t : Fin grid0.N) (b : Fin 2) (k : Fin 192) (n : Fin 784) (B : Fin 8) (hB : B.val = t.val * 2 + b.val) :
    iblk m c 0 t (ix3 b k n) = m ((c : Thread nD τ).loc main_arg0) (ix4 B k (rowOf n) (colOf n)) := by
  have e : iblk m c 0 t (ix3 b k n) = V m c main_v0 (ix3 B k n) := by
    obtain ⟨e0, -⟩ := places t
    blk_ext [iblk, e0]
  rw [e]
  show StableHlo.after hostOps0 (fun b => m (c, b)) (Proc.devRef .tc main_v0) _ = _
  unfold hostOps0
  entry_read; pointwise
  rfl

/-- The other blocks are their arrays whole. -/
theorem block_Wg1 (c : Dev nD) (t : Fin grid0.N) (h : Fin 48) (k : Fin 192) :
    iblk m c 1 t (ix2 h k) = m ((c : Thread nD τ).loc main_arg1) (ix2 h k) := by
  have e : iblk m c 1 t (ix2 h k) = V m c main_arg1 (ix2 h k) := by
    obtain ⟨-, e1, -⟩ := places t
    blk_ext [iblk, e1]
  rw [e, V_main_arg1]

/-- Every grid point sees the whole hidden offset. -/
theorem block_bg1 (c : Dev nD) (t : Fin grid0.N) (h : Fin 48) :
    iblk m c 2 t (ix2 h 0) = m ((c : Thread nD τ).loc main_arg2) (ix1 h) := by
  have e : iblk m c 2 t (ix2 h 0) = V m c main_v1 (ix2 h 0) := by
    obtain ⟨-, -, e2, -⟩ := places t
    blk_ext [iblk, e2]
  rw [e]
  show StableHlo.after hostOps0 (fun b => m (c, b)) (Proc.devRef .tc main_v1) _ = _
  unfold hostOps0
  entry_read; pointwise

/-- Every grid point sees the gate's whole second matrix. -/
theorem block_Wg2 (c : Dev nD) (t : Fin grid0.N) (r : Fin 8) (h : Fin 48) :
    iblk m c 3 t (ix2 r h) = m ((c : Thread nD τ).loc main_arg3) (ix2 r h) := by
  have e : iblk m c 3 t (ix2 r h) = V m c main_arg3 (ix2 r h) := by
    obtain ⟨-, -, -, e3, -⟩ := places t
    blk_ext [iblk, e3]
  rw [e, V_main_arg3]

/-- Every grid point sees the gate's whole second offset. -/
theorem block_bg2 (c : Dev nD) (t : Fin grid0.N) (r : Fin 8) :
    iblk m c 4 t (ix2 r 0) = m ((c : Thread nD τ).loc main_arg4) (ix1 r) := by
  have e : iblk m c 4 t (ix2 r 0) = V m c main_v2 (ix2 r 0) := by
    obtain ⟨-, -, -, -, e4, -⟩ := places t
    blk_ext [iblk, e4]
  rw [e]
  show StableHlo.after hostOps0 (fun b => m (c, b)) (Proc.devRef .tc main_v2) _ = _
  unfold hostOps0
  entry_read; pointwise

/-- Every grid point sees all the experts' matrices. -/
theorem block_We (c : Dev nD) (t : Fin grid0.N) (r : Fin 8) (o k : Fin 192) :
    iblk m c 5 t (ix3 r o k) = m ((c : Thread nD τ).loc main_arg5) (ix3 r o k) := by
  have e : iblk m c 5 t (ix3 r o k) = V m c main_arg5 (ix3 r o k) := by
    obtain ⟨-, -, -, -, -, e5, -⟩ := places t
    blk_ext [iblk, e5]
  rw [e, V_main_arg5]

/-- Every grid point sees all the experts' offsets. -/
theorem block_be (c : Dev nD) (t : Fin grid0.N) (r : Fin 8) (o : Fin 192) :
    iblk m c 6 t (ix3 r o 0) = m ((c : Thread nD τ).loc main_arg6) (ix2 r o) := by
  have e : iblk m c 6 t (ix3 r o 0) = V m c main_v3 (ix3 r o 0) := by
    obtain ⟨-, -, -, -, -, -, e6, -⟩ := places t
    blk_ext [iblk, e6]
  rw [e]
  show StableHlo.after hostOps0 (fun b => m (c, b)) (Proc.devRef .tc main_v3) _ = _
  unfold hostOps0
  entry_read; pointwise

/-! ## The layer of the arguments -/

/-- The shares the gate gives image `b`: the layer's gate at the argument buffers. -/
def shares (c : Dev nD) (b : Fin 8) : Fin 8 → EReal :=
  gate (fun h k => m ((c : Thread nD τ).loc main_arg1) (ix2 h k)) (fun h => m ((c : Thread nD τ).loc main_arg2) (ix1 h))
    (fun e h => m ((c : Thread nD τ).loc main_arg3) (ix2 e h)) (fun e => m ((c : Thread nD τ).loc main_arg4) (ix1 e))
    (fun k => ∑ n : Fin 784, m ((c : Thread nD τ).loc main_arg0) (ix4 b k (rowOf n) (colOf n)))

/-- The layer's output at image `b`, channel `o` and pixel `(i, j)`, from the argument buffers. -/
def layer (c : Dev nD) (b : Fin 8) (o : Fin 192) (i j : Fin 28) : EReal :=
  mixed (shares m c b) (fun e o k => m ((c : Thread nD τ).loc main_arg5) (ix3 e o k))
    (fun e o => m ((c : Thread nD τ).loc main_arg6) (ix2 e o)) (fun k => m ((c : Thread nD τ).loc main_arg0) (ix4 b k i j)) o

/-- The pipelined array after the run: the layer, an image's pixels in one row. -/
def rows (c : Dev nD) : S8x192x784.Idx → EReal := fun y => layer m c (y 0) (y 1) (rowOf (y 2)) (colOf (y 2))

/-- What a point leaves at image `b` of its pair is the layer at that image of the batch. -/
theorem block_layer (c : Dev nD) (t : Fin grid0.N) (b : Fin 2) (o : Fin 192) (n : Fin 784) (B : Fin 8)
    (hB : B.val = t.val * 2 + b.val) :
    blockAt (iblk m c 0 t) (iblk m c 1 t) (iblk m c 2 t) (iblk m c 3 t) (iblk m c 4 t) (iblk m c 5 t) (iblk m c 6 t) b o n
      = layer m c B o (rowOf n) (colOf n) := by
  unfold blockAt layer shares
  simp only [block_x m c t b _ _ B hB, block_Wg1, block_bg1, block_Wg2, block_bg2, block_We, block_be]

/-- The pipelined array after the run is the layer. -/
theorem final_rows (c : Dev nD) : (dats m 0 c).arrAt 7 cfg0.N = rows m c := by
  refine (dats m 0 c).arrAt_eq_of_covers 7 _ (by decide +kernel) fun t hf y => ?_
  blk_simp
  rw [after0_7]
  unfold outsAt
  rw [block_value]
  obtain ⟨-, -, -, -, -, -, -, e7⟩ := places t
  have ht : t.val < 4 := t.isLt
  have hb : (y 0).val < 2 := (y 0).isLt
  have hB : t.val * 2 + (y 0).val < 8 := by omega
  have he : (win0_7.blk t).view.emb y = ix3 (⟨t.val * 2 + (y 0).val, hB⟩ : Fin 8) (y 1 : Fin 192) (y 2 : Fin 784) := by
    blk_ext [e7]
  rw [he]
  exact block_layer m c t (y 0) (y 1) (y 2) _ rfl

/-- The result after the run is the layer at its own index. -/
theorem final_out (c : Dev nD) :
    Pipeline.afterTail₀ cfgs (dats m) 0 (V0 m) [hostOps1] c main_v5
      = fun y => layer m c (y 0) (y 1) (y 2) (y 3) := by
  have h4 : Pipeline.withArrays (cfgs (0 : Fin 1)).spec c (V0 m c) (fun w => (dats m 0 c).arrAt w (cfgs (0 : Fin 1)).N)
      (Proc.devRef .tc main_v4) = rows m c :=
    (Pipeline.withArrays_arr spec0 (by decide) c _ _ 7).trans (final_rows m c)
  have h5 : Pipeline.afterTail₀ cfgs (dats m) 0 (V0 m) [hostOps1] c main_v5
      = shapeCast S8x192x28x28 (rows m c) (by decide) := by
    show StableHlo.after hostOps1 _ (Proc.devRef .tc main_v5) = _
    rw [← h4]
    unfold hostOps1
    after_results
    rfl
  rw [h5]
  funext y
  obtain ⟨b, o, i, j, rfl⟩ : ∃ b o i j, y = ix4 b o i j := ⟨_, _, _, _, eq_ix4 y⟩
  pointwise
  exact congrArg₂ (layer m c b o) (Fin.ext (by show (i.val * 28 + j.val) / 28 = i.val; omega))
    (Fin.ext (by show (i.val * 28 + j.val) % 28 = j.val; omega))

/-- From any memory with zero counters the program terminates; its result is the layer of the arguments, which end unchanged. -/
theorem value : θ_run defs (onTc (τ := τ) (main (F := Ideal))) ⟨m, fun _ => 0, ρ⟩ (fun r => ∀ c : Dev nD,
      r.2.mem ((c.tc : Thread nD τ).loc main_v5) = (fun y => layer m c (y 0) (y 1) (y 2) (y 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨?_, h.1.1 c⟩) (θ_run_and (frame m ρ) (run_main m ρ))
  rw [← final_out]
  exact (h.2.1 c).2 main_v5 (Pipeline.mem_restRefs_of main_v5 (by decide) (by decide))

end Cert.KernelIdeal.Moe
end
-- ==== Proof.RefGate.lean ====
/-
  WHAT THE REFERENCE'S GATE COMPUTES: the logits and the softmax of the host program at an image and an expert are the
  layer's gate of that image's channel sums.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Moe

open Cert.ReferenceIdeal Cert.ReferenceIdeal.Gen
open Cert.Moe
open Idealize.ShloMosaic Idealize.ShloMosaic.Tactic

/-- The host's logits, divided by the temperature. -/
def logitsV (x : FVec Ideal S8x192x28x28 .f32) (w1 : FVec Ideal S48x192 .f32) (b1 : FVec Ideal S48 .f32) (w2 : FVec Ideal S8x48 .f32)
    (b2 : FVec Ideal S8 .f32) : FVec Ideal S8x8 .f32 :=
  Host.divf (addf (Host.dotGeneral dot_S8x48_S48x8_S8x8_1_0_0_1_n_n none (maximumf (addf (Host.dotGeneral dot_S8x192_S192x48_S8x48_1_0_0_1_n_n none
    (Host.divf (Host.reduceAdd x (constant S_ .f32 0x00000000#32) reducesTo_S8x192x28x28_S8x192_d2_3 h_S_) (broadcastInDim S8x192 ![] bcast_S_S8x192 (constant S_ .f32 0x44440000#32)))
    (transpose S192x48 [1, 0] w1 transposes_S48x192_S192x48_1_0)) (broadcastInDim S8x48 ![0, 1] bcast_S1x48_S8x48_0_1 (broadcastInDim S1x48 ![1] bcast_S48_S1x48_1 b1)))
    (broadcastInDim S8x48 ![] bcast_S_S8x48 (constant S_ .f32 0x00000000#32))) (transpose S48x8 [1, 0] w2 transposes_S8x48_S48x8_1_0))
    (broadcastInDim S8x8 ![0, 1] bcast_S1x8_S8x8_0_1 (broadcastInDim S1x8 ![1] bcast_S8_S1x8_1 b2))) (broadcastInDim S8x8 ![] bcast_S_S8x8 (constant S_ .f32 0x3F800000#32))

/-- The host's exponentials of the logits less the row's largest. -/
def expV (l : FVec Ideal S8x8 .f32) : FVec Ideal S8x8 .f32 :=
  Host.exp (subf l (broadcastInDim S8x8 ![0, 1] bcast_S8x1_S8x8_0_1 (broadcastInDim S8x1 ![0] bcast_S8_S8x1_0
    (maximumf (broadcastInDim S8 ![] bcast_S_S8 (constant S_ .f32 0xFF800000#32)) (Host.reduce FloatOps.maximumf l (constant S_ .f32 0xFF800000#32) reducesTo_S8x8_S8_d1 h_S_)))))

/-- The host's softmax. -/
def softV (l : FVec Ideal S8x8 .f32) : FVec Ideal S8x8 .f32 :=
  Host.divf (expV l) (broadcastInDim S8x8 ![0, 1] bcast_S8x1_S8x8_0_1 (broadcastInDim S8x1 ![0] bcast_S8_S8x1_0
    (Host.reduceAdd (expV l) (constant S_ .f32 0x00000000#32) reducesTo_S8x8_S8_d1 h_S_)))

variable (x : FVec Ideal S8x192x28x28 .f32) (w1 : FVec Ideal S48x192 .f32) (b1 : FVec Ideal S48 .f32) (w2 : FVec Ideal S8x48 .f32)
  (b2 : FVec Ideal S8 .f32) (l : FVec Ideal S8x8 .f32)

/-- Division by one changes nothing. -/
theorem div_one' (a : EReal) : Ideal.div a 1 = a := by
  unfold Ideal.div
  rw [if_neg one_ne_zero, inv_one, mul_one]

/-- An exponential is that of the logit less the image's largest logit. -/
theorem exp_read (b e : Fin 8) : expV l (ix2 b e) = Ideal.exp (l (ix2 b e) - top fun k => l (ix2 b k)) := by
  unfold expV
  pointwise
  rw [ofBits_neg_infinity, max_eq_right bot_le]
  rfl

/-- The host's softmax is the layer's. -/
theorem soft_read (b e : Fin 8) : softV l (ix2 b e) = soft (fun k => l (ix2 b k)) e := by
  unfold softV soft
  pointwise
  simp only [exp_read]

/-- The host's logits are the layer's, of the image's channel sums. -/
theorem logits_read (b e : Fin 8) :
    logitsV x w1 b1 w2 b2 (ix2 b e) = logit (fun e h => w2 (ix2 e h)) (fun e => b2 (ix1 e))
      (Cert.Moe.hidden (fun h k => w1 (ix2 h k)) (fun h => b1 (ix1 h)) fun k => ∑ i : Fin 28, ∑ j : Fin 28, x (ix4 b k i j)) e := by
  unfold logitsV logit Cert.Moe.hidden
  pointwise
  simp only [div_one', mul_comm (w2 _), mul_comm (w1 _)]
  rfl

end Cert.ReferenceIdeal.Moe
end
-- ==== Proof.RefMask.lean ====
/-
  WHICH EXPERTS THE REFERENCE KEEPS: the host's two largest by a stable sort, and the mask it scatters ones into at them —
  one at the first and the second place in rank, zero elsewhere.
-/
module

public import proofs.«01_k».proof.Proof.Gen.ReferenceIdeal.Run
public import proofs.«01_k».proof.Proof.Rank
public import Idealize.ShloMosaic.Lib.Pointwise
public import Idealize.ShloMosaic.Lib.Routing.OpsSet

@[expose] public section

set_option maxRecDepth 16384

noncomputable section

namespace Cert.ReferenceIdeal.Moe

open Cert.ReferenceIdeal Cert.ReferenceIdeal.Gen
open Cert.Moe
open Idealize.ShloMosaic Idealize.ShloMosaic.Tactic

/-- The host's places of the two largest shares of each image. -/
def placesV (p : FVec Ideal S8x8 .f32) : IVec S8x2 32 := (Host.topK S8x2 1 (FloatOps.cmpfTotal .gt) p sliceFits_S8x8_S8x2).2

/-- The image numbers and the expert numbers the host scatters at, each wrapped as an index from the end would be. -/
def imagesV : IVec S8x2x1 32 :=
  broadcastInDim S8x2x1 ![0, 1] bcast_S8x2_S8x2x1_0_1 (broadcastInDim S8x2 ![0, 1] bcast_S8x1_S8x2_0_1
    (select (cmpi .slt (broadcastInDim S8x1 ![0] bcast_S8_S8x1_0 (iotaInDim S8 32 0)) (broadcastInDim S8x1 ![] bcast_S_S8x1 (constantI S_ 32 0#32)))
      (addi (broadcastInDim S8x1 ![0] bcast_S8_S8x1_0 (iotaInDim S8 32 0)) (broadcastInDim S8x1 ![] bcast_S_S8x1 (constantI S_ 32 8#32)))
      (broadcastInDim S8x1 ![0] bcast_S8_S8x1_0 (iotaInDim S8 32 0))))

/-- The chosen experts' numbers, with a last axis of length one for the pairs of indices. -/
def expertsV (i : IVec S8x2 32) : IVec S8x2x1 32 :=
  broadcastInDim S8x2x1 ![0, 1] bcast_S8x2_S8x2x1_0_1
    (select (cmpi .slt i (broadcastInDim S8x2 ![] bcast_S_S8x2 (constantI S_ 32 0#32))) (addi i (broadcastInDim S8x2 ![] bcast_S_S8x2 (constantI S_ 32 8#32))) i)

/-- The pairs of index words. -/
def pairsV (p : FVec Ideal S8x8 .f32) : IVec S8x2x2 32 :=
  concatenate S8x2x2 2 [⟨S8x2x1, imagesV⟩, ⟨S8x2x1, expertsV (placesV p)⟩] concatenates_S8x2x1_S8x2x1_S8x2x2_d2

/-- The mask: ones scattered into zeros. -/
def maskV (p : FVec Ideal S8x8 .f32) : FVec Ideal S8x8 .f32 :=
  Host.scatter scatter_S8x8_S8x2x2_S8x2_n_01_01_2 (fun _ b => b) (broadcastInDim S8x8 ![] bcast_S_S8x8 (constant S_ .f32 0x00000000#32))
    (pairsV p) (broadcastInDim S8x2 ![] bcast_S_S8x2 (constant S_ .f32 0x3F800000#32))

variable (p : FVec Ideal S8x8 .f32)

/-- The place an image's entry is carried to along the experts. -/
theorem along_one (b j k : Fin 8) : (ix2 b j : S8x8.Idx).along 1 k = ix2 b k := by
  funext a
  match a with
  | ⟨0, _⟩ => rfl
  | ⟨1, _⟩ => rfl

/-- The host's order of two shares is the extended reals'. -/
theorem greater_eq (u v : Ideal .f32) : (FloatOps.cmpfTotal CmpDirection.gt u v == 1#1) = decide (v < u) := by
  show ((BitVec.ofBool (decide (v < u)) : BitVec 1) == 1#1) = _
  cases decide (v < u) <;> rfl

/-- The `r`-th place of an image's two is the `r`-th in rank of its shares. -/
theorem places_read (b : Fin 8) (r : Fin 2) :
    placesV p (ix2 b r) = BitVec.ofNat 32 (ranked (fun k => p (ix2 b k)) (r.castLE (by decide))).val := by
  unfold placesV Host.topK Host.sort2 ranked
  dsimp only
  pointwise
  simp only [greater_eq]
  exact congrArg (fun k : Fin 8 => BitVec.ofNat 32 k.val) (congrFun (congrArg sortedFrom (funext₂ fun k k' => by
    rw [show (ix2 b (⟨r.val, by omega⟩ : Fin 8) : S8x8.Idx).along 1 k = ix2 b k from along_one b _ k,
      show (ix2 b (⟨r.val, by omega⟩ : Fin 8) : S8x8.Idx).along 1 k' = ix2 b k' from along_one b _ k'])) _)

/-- The image numbers, none wrapped. -/
theorem images_read (b : Fin 8) (r : Fin 2) : imagesV (ix3 b r 0) = BitVec.ofNat 32 b.val := by
  unfold imagesV
  pointwise
  revert b; decide

/-- The expert numbers, none wrapped. -/
theorem experts_read (i : IVec S8x2 32) (b : Fin 8) (r : Fin 2) (e : Fin 8) (h : i (ix2 b r) = BitVec.ofNat 32 e.val) :
    expertsV i (ix3 b r 0) = BitVec.ofNat 32 e.val := by
  unfold expertsV
  pointwise
  rw [h]
  clear h; revert e; decide

/-- The first word of a pair is the image's number, -/
theorem pairs_zero (b : Fin 8) (r : Fin 2) : pairsV p (ix3 b r 0) = BitVec.ofNat 32 b.val := by
  rw [← images_read b r]
  unfold pairsV
  pointwise

/-- the second the expert's. -/
theorem pairs_one (b : Fin 8) (r : Fin 2) :
    pairsV p (ix3 b r 1) = BitVec.ofNat 32 (ranked (fun k => p (ix2 b k)) (r.castLE (by decide))).val := by
  rw [← experts_read _ b r _ (places_read p b r)]
  unfold pairsV
  pointwise

/-- A number below eight, as a signed word, is itself. -/
theorem word_toInt (e : Fin 8) : (BitVec.ofNat 32 e.val).toInt = (e.val : Int) := by
  revert e; decide

/-- Update `(b', r)` lands at `(b, e)` exactly when it is image `b`'s and its expert is `e`. -/
theorem lands (b b' e : Fin 8) (r : Fin 2) :
    scatter_S8x8_S8x2x2_S8x2_n_01_01_2.resultIdx? (ix2 b' r) (pairsV p) = some (ix2 b e)
      ↔ b' = b ∧ ranked (fun k => p (ix2 b' k)) (r.castLE (by decide)) = e := by
  refine (Routing.scatter_lands2 scatter_S8x8_S8x2x2_S8x2_n_01_01_2 rfl rfl rfl (pairsV p) b' r b e).trans ?_
  show (pairsV p (ix3 b' r 0)).toInt = _ ∧ (pairsV p (ix3 b' r 1)).toInt = _ ↔ _
  rw [pairs_zero, pairs_one, word_toInt, word_toInt]
  simp only [Nat.cast_inj, Fin.val_inj]

/-- The mask is one at the two experts first and second in rank, zero elsewhere. -/
theorem mask_read (b e : Fin 8) :
    maskV p (ix2 b e) = if e = ranked (fun k => p (ix2 b k)) 0 ∨ e = ranked (fun k => p (ix2 b k)) 1 then (1 : EReal) else 0 := by
  unfold maskV
  have hone : ∀ k : S8x2.Idx, (broadcastInDim S8x2 ![] bcast_S_S8x2 (constant (F := Ideal) S_ .f32 0x3F800000#32)) k = (1 : EReal) := fun k => by
    obtain ⟨b, r, rfl⟩ : ∃ b r, k = ix2 b r := ⟨_, _, eq_ix2 k⟩
    pointwise
  split
  · next h =>
    obtain ⟨r, hr⟩ : ∃ r : Fin 2, ranked (fun k => p (ix2 b k)) (r.castLE (by decide)) = e :=
      h.elim (fun q => ⟨0, q.symm⟩) fun q => ⟨1, q.symm⟩
    exact Routing.scatter_set_hit scatter_S8x8_S8x2x2_S8x2_n_01_01_2 _ (pairsV p) _ (ix2 b e) 1 (fun k _ => hone k) (ix2 b r)
      ((lands p b b e r).mpr ⟨rfl, hr⟩)
  · next h =>
    have hmiss : ∀ k : S8x2.Idx, scatter_S8x8_S8x2x2_S8x2_n_01_01_2.resultIdx? k (pairsV p) ≠ some (ix2 b e) := fun k hk => by
      obtain ⟨b', r, rfl⟩ : ∃ b r, k = ix2 b r := ⟨_, _, eq_ix2 k⟩
      obtain ⟨hb, hr⟩ := (lands p b b' e r).mp hk
      subst hb
      fin_cases r
      · exact h (Or.inl hr.symm)
      · exact h (Or.inr hr.symm)
    rw [Routing.scatter_set_miss _ _ _ _ _ hmiss]
    pointwise

end Cert.ReferenceIdeal.Moe
end
-- ==== Proof.RefValue.lean ====
/-
  WHAT THE REFERENCE RETURNS: its result at an image, a channel and a pixel is the plain layer of the host's gate.
-/
module

public import proofs.«01_k».proof.Proof.RefGate
public import proofs.«01_k».proof.Proof.RefMask

@[expose] public section

set_option maxRecDepth 16384

noncomputable section

namespace Cert.ReferenceIdeal.Moe

open Cert.ReferenceIdeal Cert.ReferenceIdeal.Gen
open Cert.Moe
open Idealize.ShloMosaic Idealize.ShloMosaic.TcCoe Idealize.ShloMosaic.Tactic
open Idealize.SL.Sem

/-- The host's shares, all but each image's two largest struck out. -/
def maskedV (p : FVec Ideal S8x8 .f32) : FVec Ideal S8x8 .f32 := mulf p (maskV p)

/-- The host's weights. -/
def weightV (p : FVec Ideal S8x8 .f32) : FVec Ideal S8x8 .f32 :=
  Host.divf (maskedV p) (broadcastInDim S8x8 ![0, 1] bcast_S8x1_S8x8_0_1 (addf (broadcastInDim S8x1 ![0] bcast_S8_S8x1_0
    (Host.reduceAdd (maskedV p) (constant S_ .f32 0x00000000#32) reducesTo_S8x8_S8_d1 h_S_)) (broadcastInDim S8x1 ![] bcast_S_S8x1 (constant S_ .f32 0x322BCC77#32))))

/-- Every expert's output at every pixel. -/
def expertV (x : FVec Ideal S8x192x28x28 .f32) (w : FVec Ideal S8x192x192 .f32) (be : FVec Ideal S8x192 .f32) : FVec Ideal S8x8x192x28x28 .f32 :=
  addf (transpose S8x8x192x28x28 [0, 2, 1, 3, 4] (Host.dotGeneral dot_S8x192x192_S8x192x28x28_S8x192x8x28x28_2_1_01_023_n_n none w x) transposes_S8x192x8x28x28_S8x8x192x28x28_0_2_1_3_4)
    (broadcastInDim S8x8x192x28x28 ![0, 1, 2, 3, 4] bcast_S8x1x192x1x1_S8x8x192x28x28_0_1_2_3_4 (broadcastInDim S8x1x192x1x1 ![0, 2, 3, 4] bcast_S8x192x1x1_S8x1x192x1x1_0_2_3_4
      (broadcastInDim S8x192x1x1 ![0, 1] bcast_S8x192_S8x192x1x1_0_1 be)))

/-- The host's result, from its shares. -/
def outV (p : FVec Ideal S8x8 .f32) (x : FVec Ideal S8x192x28x28 .f32) (w : FVec Ideal S8x192x192 .f32) (be : FVec Ideal S8x192 .f32) :
    FVec Ideal S8x192x28x28 .f32 :=
  addf (Host.dotGeneral dot_S8x8_S8x8x192x28x28_S8x192x28x28_1_0_n_234_0_1 none (weightV p) (expertV x w be)) x

variable (p : FVec Ideal S8x8 .f32) (x : FVec Ideal S8x192x28x28 .f32) (w : FVec Ideal S8x192x192 .f32) (be : FVec Ideal S8x192 .f32)

/-- A masked share is the share times the mask. -/
theorem masked_read (b e : Fin 8) : maskedV p (ix2 b e) = p (ix2 b e) * chosen (fun k => p (ix2 b k)) e := by
  unfold maskedV
  pointwise
  rw [mask_read]
  rfl

/-- The host's weights are the layer's. -/
theorem weight_read (b e : Fin 8) : weightV p (ix2 b e) = weight (fun k => p (ix2 b k)) e := by
  unfold weightV weight
  pointwise
  simp only [masked_read]
  rfl

/-- An expert's output at a pixel: its matrix on the pixel's channels, and its bias. -/
theorem expert_read (e b : Fin 8) (o : Fin 192) (i j : Fin 28) :
    expertV x w be (ix5 e b o i j) = ∑ c : Fin 192, w (ix3 e o c) * x (ix4 b c i j) + be (ix2 e o) := by
  unfold expertV
  pointwise

/-- The host's result from its shares is the plain layer. -/
theorem out_read (b : Fin 8) (o : Fin 192) (i j : Fin 28) :
    outV p x w be (ix4 b o i j) = plain (fun k => p (ix2 b k)) (fun e o c => w (ix3 e o c)) (fun e o => be (ix2 e o)) (fun c => x (ix4 b c i j)) o := by
  unfold outV plain
  pointwise
  simp only [weight_read, expert_read]

variable (m : (ℓ : Loc nD τ sig) → Buf (Elt Ideal) ℓ) (c : Dev nD)

/-- The host's result is composed of the pieces above. -/
theorem result_eq : Cert.ReferenceIdeal.Value.res_main_v60 m c
    = outV (softV (logitsV (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))))
      (m ((c.tc : Thread nD τ).loc main_arg0)) (m ((c.tc : Thread nD τ).loc main_arg5)) (m ((c.tc : Thread nD τ).loc main_arg6)) := rfl

/-- The host's shares of image `b`, from the argument buffers. -/
def shares (b : Fin 8) : Fin 8 → EReal :=
  gate (fun h k => m ((c.tc : Thread nD τ).loc main_arg1) (ix2 h k)) (fun h => m ((c.tc : Thread nD τ).loc main_arg2) (ix1 h))
    (fun e h => m ((c.tc : Thread nD τ).loc main_arg3) (ix2 e h)) (fun e => m ((c.tc : Thread nD τ).loc main_arg4) (ix1 e))
    (fun k => ∑ i : Fin 28, ∑ j : Fin 28, m ((c.tc : Thread nD τ).loc main_arg0) (ix4 b k i j))

/-- The reference's result at an image, a channel and a pixel. -/
theorem result_read (b : Fin 8) (o : Fin 192) (i j : Fin 28) :
    Cert.ReferenceIdeal.Value.res_main_v60 m c (ix4 b o i j)
      = plain (shares m c b) (fun e o k => m ((c.tc : Thread nD τ).loc main_arg5) (ix3 e o k))
          (fun e o => m ((c.tc : Thread nD τ).loc main_arg6) (ix2 e o)) (fun k => m ((c.tc : Thread nD τ).loc main_arg0) (ix4 b k i j)) o := by
  rw [result_eq]
  refine (out_read _ _ _ _ b o i j).trans ?_
  unfold shares gate
  simp only [soft_read, logits_read]

end Cert.ReferenceIdeal.Moe
end
-- ==== Proof.Equation.lean ====
/-
  THE EQUATION: mixing the two chosen experts' matrices first and weighting every expert's output agree, at a softmax's
  shares, wherever the image's pixel and the experts' matrices are finite.
-/
module

public import proofs.«01_k».proof.Proof.Spec

@[expose] public section

noncomputable section

namespace Cert.Moe

open Idealize.ShloMosaic

/-! ## What a softmax returns -/

/-- The small constant is a positive real. -/
theorem small_pos : ∃ r : ℝ, 0 < r ∧ small = (r : EReal) := by
  unfold small
  simp [Ideal.ofBits, Ideal.ieee]
  refine ⟨11258999 * (2 ^ 50)⁻¹, by positivity, ?_⟩
  rw [EReal.coe_mul]

/-- The exponential of −∞ is zero. -/
theorem exp_bot : Ideal.exp ⊥ = 0 := rfl
/-- At a real it is the real exponential. -/
theorem exp_coe (a : ℝ) : Ideal.exp (a : EReal) = (Real.exp a : EReal) := rfl

/-- The exponential of a number that is at most zero is a real between zero and one. -/
theorem exp_real (a : EReal) (h : a ≤ 0) : ∃ r : ℝ, 0 ≤ r ∧ Ideal.exp a = (r : EReal) := by
  induction a with
  | bot => exact ⟨0, le_rfl, exp_bot⟩
  | coe a => exact ⟨Real.exp a, (Real.exp_pos a).le, exp_coe a⟩
  | top => exact absurd h (by simp)

/-- A sum of eight reals is a real. -/
theorem sum_coe {ι : Type} (s : Finset ι) (f : ι → ℝ) : ∑ k ∈ s, (f k : EReal) = ((∑ k ∈ s, f k : ℝ) : EReal) :=
  (map_sum (⟨⟨Real.toEReal, rfl⟩, EReal.coe_add⟩ : ℝ →+ EReal) f s).symm

/-- The shares are nonnegative reals, or — some logit infinite above, or all of them below — all −∞. -/
theorem soft_cases (l : Fin 8 → EReal) : (∃ q : Fin 8 → ℝ, (∀ k, 0 ≤ q k) ∧ soft l = fun k => (q k : EReal)) ∨ soft l = fun _ => ⊥ := by
  have hbot : (∀ k, l k - top l = ⊥) → soft l = fun _ => ⊥ := fun h => by
    funext e
    simp [soft, h, exp_bot, Ideal.div]
  by_cases ht : top l = ⊤
  · exact Or.inr (hbot fun k => by rw [ht]; exact EReal.sub_top _)
  by_cases hb : top l = ⊥
  · refine Or.inr (hbot fun k => ?_)
    have hk : l k = ⊥ := le_bot_iff.mp (hb ▸ le_top l k)
    rw [hk]
    exact EReal.bot_sub _
  left
  obtain ⟨M, hM⟩ : ∃ M : ℝ, top l = M := ⟨_, (EReal.coe_toReal ht hb).symm⟩
  have hle : ∀ k, l k - top l ≤ 0 := fun k => by
    rw [hM, EReal.sub_nonpos]
    exact hM ▸ le_top l k
  choose r hr hre using fun k => exp_real _ (hle k)
  have hone : r (pick l) = 1 := by
    have := hre (pick l)
    rw [at_pick l, hM, EReal.sub_self (EReal.coe_ne_top M) (EReal.coe_ne_bot M), ← EReal.coe_zero, exp_coe, Real.exp_zero] at this
    exact_mod_cast this.symm
  have hS : 0 < ∑ k, r k := lt_of_lt_of_le (hone ▸ zero_lt_one : 0 < r (pick l)) (Finset.single_le_sum (fun k _ => hr k) (Finset.mem_univ _))
  refine ⟨fun k => r k * (∑ j, r j)⁻¹, fun k => mul_nonneg (hr k) (inv_nonneg.mpr hS.le), ?_⟩
  funext e
  unfold soft
  simp only [hre]
  rw [sum_coe, Ideal.div, if_neg (by exact_mod_cast hS.ne'), ← EReal.coe_inv, ← EReal.coe_mul]

/-! ## The two ways of mixing -/

variable (W : Fin 8 → Fin 192 → Fin 192 → EReal) (b : Fin 8 → Fin 192 → EReal) (x : Fin 192 → EReal) (o : Fin 192)

/-- First and second in rank are two places. -/
theorem ranked_ne (p : Fin 8 → EReal) : ranked p 0 ≠ ranked p 1 := fun e => absurd (sortedFrom_injective _ e) (by decide)

/-- A sum against the mask keeps the two chosen places. -/
theorem sum_chosen (p f : Fin 8 → EReal) (hf : ∀ e, e ≠ ranked p 0 → e ≠ ranked p 1 → f e = 0) :
    ∑ e, f e = f (ranked p 0) + f (ranked p 1) := by
  rw [← Finset.sum_pair (ranked_ne p)]
  refine (Finset.sum_subset (Finset.subset_univ _) fun e _ he => ?_).symm
  rw [Finset.mem_insert, Finset.mem_singleton, not_or] at he
  exact hf e he.1 he.2

/-- The mask is one at the first place in rank, -/
theorem chosen_zero (p : Fin 8 → EReal) : chosen p (ranked p 0) = 1 := if_pos (Or.inl rfl)
/-- One at the second, -/
theorem chosen_one (p : Fin 8 → EReal) : chosen p (ranked p 1) = 1 := if_pos (Or.inr rfl)
/-- and zero at the others. -/
theorem chosen_else (p : Fin 8 → EReal) (e : Fin 8) (h0 : e ≠ ranked p 0) (h1 : e ≠ ranked p 1) : chosen p e = 0 :=
  if_neg (not_or.mpr ⟨h0, h1⟩)

/-- The masked shares' sum is the two chosen shares'. -/
theorem sum_masked (p : Fin 8 → EReal) : ∑ k, p k * chosen p k = p (ranked p 0) + p (ranked p 1) := by
  rw [sum_chosen p _ fun e h0 h1 => by rw [chosen_else p e h0 h1, mul_zero], chosen_zero, chosen_one, mul_one, mul_one]

/-- Shares that are all −∞ leave the image alone, whichever way they are mixed. -/
theorem mixed_bot : mixed (fun _ => ⊥) W b x o = x o := by
  have ht : top (fun _ : Fin 8 => (⊥ : EReal)) = ⊥ := le_bot_iff.mp (Finset.sup_le fun _ _ => le_rfl)
  have hs : scale (fun _ => ⊥) = 0 := by
    simp [scale, ht, Ideal.div]
  have hr : top (rest fun _ => ⊥) = -1 := by
    refine le_antisymm (Finset.sup_le fun k _ => ?_) ?_
    · unfold rest; split
      · exact le_rfl
      · exact bot_le
    · have h1 : rest (fun _ => (⊥ : EReal)) (pick fun _ => ⊥) = -1 := if_pos rfl
      rw [← h1]
      exact le_top _ _
  simp [mixed, hs]

/-- The same of the plain way. -/
theorem plain_bot : plain (fun _ => ⊥) W b x o = x o := by
  have hw : ∀ e, weight (fun _ => ⊥) e = 0 := fun e => by
    rw [weight, sum_masked]
    simp [Ideal.div]
  simp [plain, hw]

/-- At nonnegative real shares, finite matrices and a finite pixel the two ways agree. -/
theorem mixed_eq_plain (q : Fin 8 → ℝ) (hq : ∀ k, 0 ≤ q k) (w : Fin 8 → Fin 192 → Fin 192 → ℝ) (y : Fin 192 → ℝ) :
    mixed (fun k => (q k : EReal)) (fun e o c => (w e o c : EReal)) b (fun c => (y c : EReal)) o
      = plain (fun k => (q k : EReal)) (fun e o c => (w e o c : EReal)) b (fun c => (y c : EReal)) o := by
  set p : Fin 8 → EReal := fun k => (q k : EReal) with hp
  have h1 : pick (rest p) = ranked p 1 := (ranked_one p fun k => lt_of_lt_of_le (by norm_num) (EReal.coe_nonneg.mpr (hq k))).symm
  have h0 : pick p = ranked p 0 := (ranked_zero p).symm
  have t0 : top p = p (ranked p 0) := by rw [← h0, at_pick p]
  have t1 : top (rest p) = p (ranked p 1) := by
    rw [← at_pick (rest p), h1, rest, if_neg (h0 ▸ (ranked_ne p).symm)]
  obtain ⟨r, hr, hs⟩ := small_pos
  set i := ranked p 0
  set j := ranked p 1
  have hD : p i + p j + small = ((q i + q j + r : ℝ) : EReal) := by rw [hs, EReal.coe_add, EReal.coe_add]
  have hD0 : 0 < q i + q j + r := add_pos_of_nonneg_of_pos (add_nonneg (hq i) (hq j)) hr
  have hdiv : ∀ a : EReal, Ideal.div a (p i + p j + small) = a * ((q i + q j + r)⁻¹ : ℝ) := fun a => by
    rw [hD, Ideal.div, if_neg (by exact_mod_cast hD0.ne'), ← EReal.coe_inv]
  have hsc : scale p = ((q i + q j + r)⁻¹ : ℝ) := by rw [scale, t0, t1, hdiv, one_mul]
  have hv : ∀ k, 0 ≤ q k * (q i + q j + r)⁻¹ := fun k => mul_nonneg (hq k) (inv_nonneg.mpr hD0.le)
  have hw : ∀ e, weight p e = p e * chosen p e * ((q i + q j + r)⁻¹ : ℝ) := fun e => by rw [weight, sum_masked, hdiv]
  have hwi : weight p i = ((q i * (q i + q j + r)⁻¹ : ℝ) : EReal) := by rw [hw, chosen_zero, mul_one, EReal.coe_mul]
  have hwj : weight p j = ((q j * (q i + q j + r)⁻¹ : ℝ) : EReal) := by rw [hw, chosen_one, mul_one, EReal.coe_mul]
  unfold mixed plain
  rw [h0, h1, t0, t1, hsc, sum_chosen p _ fun e e0 e1 => by rw [hw, chosen_else p e e0 e1, mul_zero, zero_mul, zero_mul], hwi, hwj,
    EReal.left_distrib_of_nonneg_of_ne_top (EReal.coe_nonneg.mpr (hv i)) (EReal.coe_ne_top _),
    EReal.left_distrib_of_nonneg_of_ne_top (EReal.coe_nonneg.mpr (hv j)) (EReal.coe_ne_top _), add_add_add_comm]
  congr 2
  · rw [hp]
    simp only [← EReal.coe_mul, ← EReal.coe_add, sum_coe]
    rw [Finset.mul_sum, Finset.mul_sum, ← Finset.sum_add_distrib]
    exact congrArg _ (Finset.sum_congr rfl fun c _ => by ring)

/-- At a softmax's shares the two ways agree wherever the matrices and the pixel are finite. -/
theorem mixed_soft (l : Fin 8 → EReal) (hW : ∀ e o c, W e o c ≠ ⊤ ∧ W e o c ≠ ⊥) (hx : ∀ c, x c ≠ ⊤ ∧ x c ≠ ⊥) :
    mixed (soft l) W b x o = plain (soft l) W b x o := by
  rcases soft_cases l with ⟨q, hq, e⟩ | e
  · have hw : W = fun e o c => ((W e o c).toReal : EReal) := by
      funext e o c; exact (EReal.coe_toReal (hW e o c).1 (hW e o c).2).symm
    have hy : x = fun c => ((x c).toReal : EReal) := by
      funext c; exact (EReal.coe_toReal (hx c).1 (hx c).2).symm
    rw [e, hw, hy]
    exact mixed_eq_plain b o q hq _ _
  · rw [e, mixed_bot, plain_bot]

end Cert.Moe
end
-- ==== Proof.Meet.lean ====
/-
  WHERE THE TWO PROGRAMS MEET: the precondition read as finiteness of the image and of the experts' matrices; the channel
  sums taken over a row of pixels and over an image's rows and columns; and from them the two programs' results alike.
-/
module

public import proofs.«01_k».proof.Defs
public import proofs.«01_k».proof.Proof.Gen.Pre_finite
public import proofs.«01_k».proof.Proof.Gen.KernelIdeal
public import proofs.«01_k».proof.Proof.Gen.ReferenceIdeal
public import proofs.«01_k».proof.Proof.Array
public import proofs.«01_k».proof.Proof.RefValue
public import proofs.«01_k».proof.Proof.Equation

@[expose] public section

set_option maxRecDepth 16384

noncomputable section

namespace Cert.Meet

open Cert.Moe
open Idealize.ShloMosaic Idealize.ShloMosaic.TcCoe Idealize.ShloMosaic.Tactic
open Idealize.SL.Sem

attribute [local instance] Cert.KernelIdeal.Gen.facts Cert.ReferenceIdeal.Gen.facts Cert.Pre_finite.Gen.facts

/-- The precondition's bound is +∞. -/
theorem bound_top : Ideal.ofBits .f32 0x7F800000#32 = ⊤ := by
  simp [Ideal.ofBits, Ideal.ieee]

/-- A number whose magnitude is below +∞ is finite. -/
theorem finite_of_abs (a : EReal) (h : BitVec.ofBool (decide (max a (-a) < Ideal.ofBits .f32 0x7F800000#32)) = 1#1) : a ≠ ⊤ ∧ a ≠ ⊥ := by
  rw [bound_top] at h
  have hlt : max a (-a) < ⊤ := by
    by_contra hn
    rw [decide_eq_false hn] at h
    exact absurd h (by decide)
  constructor <;> rintro rfl <;> simp at hlt

variable (m : (ℓ : Loc Cert.KernelIdeal.nD Cert.KernelIdeal.τ Cert.KernelIdeal.sig) → Buf (Elt Ideal) ℓ)

/-- Under the precondition the image is finite, -/
theorem finite_x (h : Pre_KernelIdeal_finite m) (c : Dev Cert.KernelIdeal.nD) (b : Fin 8) (k : Fin 192) (i j : Fin 28) :
    m ((c : Thread Cert.KernelIdeal.nD Cert.KernelIdeal.τ).loc Cert.KernelIdeal.main_arg0) (ix4 b k i j) ≠ (⊤ : EReal)
      ∧ m ((c : Thread Cert.KernelIdeal.nD Cert.KernelIdeal.τ).loc Cert.KernelIdeal.main_arg0) (ix4 b k i j) ≠ (⊥ : EReal) := by
  have h1 := congrFun (h c).1 (ix4 b k i j)
  unfold Cert.Pre_finite.fn at h1
  dsimp only at h1
  refine finite_of_abs _ (Eq.trans ?_ h1)
  pointwise
  rfl

/-- and so are the experts' matrices. -/
theorem finite_W (h : Pre_KernelIdeal_finite m) (c : Dev Cert.KernelIdeal.nD) (e : Fin 8) (o k : Fin 192) :
    m ((c : Thread Cert.KernelIdeal.nD Cert.KernelIdeal.τ).loc Cert.KernelIdeal.main_arg5) (ix3 e o k) ≠ (⊤ : EReal)
      ∧ m ((c : Thread Cert.KernelIdeal.nD Cert.KernelIdeal.τ).loc Cert.KernelIdeal.main_arg5) (ix3 e o k) ≠ (⊥ : EReal) := by
  have h1 := congrFun (h c).2 (ix3 e o k)
  unfold Cert.Pre_finite.fn at h1
  dsimp only at h1
  refine finite_of_abs _ (Eq.trans ?_ h1)
  pointwise
  rfl

/-- A sum over an image's pixels in one row is the sum over its rows and columns. -/
theorem sum_pixels (f : Fin 28 → Fin 28 → EReal) :
    ∑ n : Fin 784, f (Cert.KernelIdeal.Moe.rowOf n) (Cert.KernelIdeal.Moe.colOf n) = ∑ i, ∑ j, f i j := by
  rw [← Fintype.sum_prod_type', ← Equiv.sum_comp (finProdFinEquiv : Fin 28 × Fin 28 ≃ Fin 784)]
  refine Finset.sum_congr rfl fun q _ => congrArg₂ f (Fin.ext ?_) (Fin.ext ?_)
  · show (q.2.val + 28 * q.1.val) / 28 = q.1.val
    omega
  · show (q.2.val + 28 * q.1.val) % 28 = q.2.val
    omega

variable (m' : (ℓ : Loc Cert.ReferenceIdeal.nD Cert.ReferenceIdeal.τ Cert.ReferenceIdeal.sig) → Buf (Elt Ideal) ℓ)

/-- The two programs' arguments agree on device `c`. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- At equal arguments the two programs' shares are equal. -/
theorem shares_eq (c : Dev Cert.KernelIdeal.nD) (h : Agree m m' c) (b : Fin 8) :
    Cert.ReferenceIdeal.Moe.shares m' c b = Cert.KernelIdeal.Moe.shares m c b := by
  obtain ⟨h0, h1, h2, h3, h4, -, -⟩ := h
  unfold Cert.ReferenceIdeal.Moe.shares Cert.KernelIdeal.Moe.shares
  rw [h0, h1, h2, h3, h4]
  exact congrArg (gate _ _ _ _) (funext fun k => (sum_pixels fun i j => m (c.tc.loc Cert.KernelIdeal.main_arg0) (ix4 b k i j)).symm)

/-- At equal arguments, under the precondition, the reference's result is the kernel's. -/
theorem result_eq (h : Pre_KernelIdeal_finite m) (c : Dev Cert.KernelIdeal.nD) (ha : Agree m m' c) :
    Cert.ReferenceIdeal.Value.res_main_v60 m' c = fun y => Cert.KernelIdeal.Moe.layer m c (y 0) (y 1) (y 2) (y 3) := by
  funext y
  obtain ⟨b, o, i, j, rfl⟩ : ∃ b o i j, y = ix4 b o i j := ⟨_, _, _, _, eq_ix4 y⟩
  refine (Cert.ReferenceIdeal.Moe.result_read m' c b o i j).trans ?_
  rw [shares_eq m m' c ha b]
  obtain ⟨h0, -, -, -, -, h5, h6⟩ := ha
  rw [h0, h5, h6]
  exact (mixed_soft _ _ _ o _ (fun e o k => finite_W m h c e o k) fun k => finite_x m h c b k i j).symm

end Cert.Meet
end
-- ==== Proof.lean ====
/-
  The proof of this directory's claim: the kernel's and the reference's frames, with and without the precondition, and —
  where the image and the experts' matrices are finite — their equal results over the extended reals. The pieces: what a
  grid point computes (Block), what the result's array holds (Array), what the reference returns (RefValue), the equation
  between the two (Equation), the meeting of the programs (Meet).
-/
module

public import proofs.«01_k».proof.Defs
public import proofs.«01_k».proof.Proof.Gen.ReferenceIdeal.Run
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Meet
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

attribute [local instance] Cert.KernelIdeal.Gen.facts Cert.ReferenceIdeal.Gen.facts Cert.Pre_finite.Gen.facts

/-- The reference runs, leaves its arguments unchanged and every counter at zero. -/
theorem reference_frame : quiescent_ReferenceIdeal := fun m g _ =>
  (θ_run _ _ _).mono (fun r h => ⟨fun c => (h c).2, sem_eq_zero_of_no_sems (by decide) r.2⟩) (Cert.ReferenceIdeal.Value.run m g)

/-- At equal arguments, finite where the precondition says, the two programs return the same. -/
theorem equal_results : algebraic_KernelIdeal_ReferenceIdeal_pre_finite := fun m g m' g' hp ha =>
  ⟨fun c y => Cert.KernelIdeal.Moe.layer m c (y 0) (y 1) (y 2) (y 3), Cert.KernelIdeal.Moe.value m g,
    (θ_run _ _ _).mono (fun _ h c => ⟨(h c).1.trans (Cert.Meet.result_eq m m' hp c (ha c)), (h c).2⟩) (Cert.ReferenceIdeal.Value.run m' g')⟩

/-- Everything this certificate claims. -/
theorem claim : Cert.Claim := ⟨Cert.KernelIdeal.Gen.facts, Cert.ReferenceIdeal.Gen.facts, Cert.Pre_finite.Gen.facts,
  fun m g _ => Cert.KernelIdeal.Moe.frame m g, fun m g _ => Cert.KernelIdeal.Moe.frame m g,
  reference_frame, fun m g _ => reference_frame m g trivial, equal_results⟩

end Cert.Proof

end
